-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x7168 : Shape := ⟨3, ![32, 1, 7168]⟩
abbrev S2304x3584 : Shape := ⟨2, ![2304, 3584]⟩
abbrev S2304x224 : Shape := ⟨2, ![2304, 224]⟩
abbrev S7168x1152 : Shape := ⟨2, ![7168, 1152]⟩
abbrev S7168x72 : Shape := ⟨2, ![7168, 72]⟩
abbrev S32x7168 : Shape := ⟨2, ![32, 7168]⟩
abbrev S224x2304 : Shape := ⟨2, ![224, 2304]⟩
abbrev S72x7168 : Shape := ⟨2, ![72, 7168]⟩
abbrev S256x3584 : Shape := ⟨2, ![256, 3584]⟩
abbrev S224x256 : Shape := ⟨2, ![224, 256]⟩
abbrev S1024x1152 : Shape := ⟨2, ![1024, 1152]⟩
abbrev S72x1024 : Shape := ⟨2, ![72, 1024]⟩
abbrev S32x1024 : Shape := ⟨2, ![32, 1024]⟩
abbrev S28x32x256 : Shape := ⟨3, ![28, 32, 256]⟩
abbrev S9x32x256 : Shape := ⟨3, ![9, 32, 256]⟩
abbrev S256x256 : Shape := ⟨2, ![256, 256]⟩
abbrev S32x256 : Shape := ⟨2, ![32, 256]⟩
abbrev S1x32x256 : Shape := ⟨3, ![1, 32, 256]⟩
abbrev S256x128 : Shape := ⟨2, ![256, 128]⟩
abbrev S128x256 : Shape := ⟨2, ![128, 256]⟩
abbrev S1x256 : Shape := ⟨2, ![1, 256]⟩
abbrev S16x256 : Shape := ⟨2, ![16, 256]⟩

abbrev nBuf : Space → Nat
  | .hbm => 18
  | .vmem => 29
  | .smem => 0
  | _ => 0

abbrev bufTy : (tb : Table) → Fin (tcTables nBuf tb) → BufTy
  | .hbm, ⟨0, _⟩ => ⟨S32x1x7168, .bf16⟩
  | .hbm, ⟨1, _⟩ => ⟨S2304x3584, .i8⟩
  | .hbm, ⟨2, _⟩ => ⟨S2304x224, .f16⟩
  | .hbm, ⟨3, _⟩ => ⟨S2304x224, .f16⟩
  | .hbm, ⟨4, _⟩ => ⟨S2304x3584, .i8⟩
  | .hbm, ⟨5, _⟩ => ⟨S2304x224, .f16⟩
  | .hbm, ⟨6, _⟩ => ⟨S2304x224, .f16⟩
  | .hbm, ⟨7, _⟩ => ⟨S7168x1152, .i8⟩
  | .hbm, ⟨8, _⟩ => ⟨S7168x72, .f16⟩
  | .hbm, ⟨9, _⟩ => ⟨S7168x72, .f16⟩
  | .hbm, ⟨10, _⟩ => ⟨S32x7168, .bf16⟩
  | .hbm, ⟨11, _⟩ => ⟨S224x2304, .f16⟩
  | .hbm, ⟨12, _⟩ => ⟨S224x2304, .f16⟩
  | .hbm, ⟨13, _⟩ => ⟨S224x2304, .f16⟩
  | .hbm, ⟨14, _⟩ => ⟨S224x2304, .f16⟩
  | .hbm, ⟨15, _⟩ => ⟨S72x7168, .f16⟩
  | .hbm, ⟨16, _⟩ => ⟨S72x7168, .f16⟩
  | .hbm, ⟨17, _⟩ => ⟨S32x7168, .bf16⟩
  | .local _ .vmem, ⟨0, _⟩ => ⟨S32x7168, .bf16⟩
  | .local _ .vmem, ⟨1, _⟩ => ⟨S256x3584, .i8⟩
  | .local _ .vmem, ⟨2, _⟩ => ⟨S256x3584, .i8⟩
  | .local _ .vmem, ⟨3, _⟩ => ⟨S224x256, .f16⟩
  | .local _ .vmem, ⟨4, _⟩ => ⟨S224x256, .f16⟩
  | .local _ .vmem, ⟨5, _⟩ => ⟨S224x256, .f16⟩
  | .local _ .vmem, ⟨6, _⟩ => ⟨S224x256, .f16⟩
  | .local _ .vmem, ⟨7, _⟩ => ⟨S256x3584, .i8⟩
  | .local _ .vmem, ⟨8, _⟩ => ⟨S256x3584, .i8⟩
  | .local _ .vmem, ⟨9, _⟩ => ⟨S224x256, .f16⟩
  | .local _ .vmem, ⟨10, _⟩ => ⟨S224x256, .f16⟩
  | .local _ .vmem, ⟨11, _⟩ => ⟨S224x256, .f16⟩
  | .local _ .vmem, ⟨12, _⟩ => ⟨S224x256, .f16⟩
  | .local _ .vmem, ⟨13, _⟩ => ⟨S1024x1152, .i8⟩
  | .local _ .vmem, ⟨14, _⟩ => ⟨S1024x1152, .i8⟩
  | .local _ .vmem, ⟨15, _⟩ => ⟨S72x1024, .f16⟩
  | .local _ .vmem, ⟨16, _⟩ => ⟨S72x1024, .f16⟩
  | .local _ .vmem, ⟨17, _⟩ => ⟨S72x1024, .f16⟩
  | .local _ .vmem, ⟨18, _⟩ => ⟨S72x1024, .f16⟩
  | .local _ .vmem, ⟨19, _⟩ => ⟨S32x1024, .bf16⟩
  | .local _ .vmem, ⟨20, _⟩ => ⟨S32x1024, .bf16⟩
  | .local _ .vmem, ⟨21, _⟩ => ⟨S28x32x256, .bf16⟩
  | .local _ .vmem, ⟨22, _⟩ => ⟨S9x32x256, .bf16⟩
  | .local _ .vmem, ⟨23, _⟩ => ⟨S224x256, .f32⟩
  | .local _ .vmem, ⟨24, _⟩ => ⟨S224x256, .f32⟩
  | .local _ .vmem, ⟨25, _⟩ => ⟨S224x256, .f32⟩
  | .local _ .vmem, ⟨26, _⟩ => ⟨S224x256, .f32⟩
  | .local _ .vmem, ⟨27, _⟩ => ⟨S72x1024, .f32⟩
  | .local _ .vmem, ⟨28, _⟩ => ⟨S72x1024, .f32⟩
  | _, _ => ⟨S32x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c9_i32 : BitVec 32 := 9#32
  let v3 : BitVec 1 := Scalar.cmpi .slt arg0 c9_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v7414 : Index := Scalar.indexCast arg0
  let c0_2092 : Index := 0#32
  let c0_2093 : Index := 0#32
  ![v7414.toNat, 0, 0]
def k0_cond3 (i : grid0.Coords) : BitVec 1 :=
  let arg0 : BitVec 32 := BitVec.ofNat 32 (i 0).val
  let c9_i32_2 : BitVec 32 := 9#32
  let v6 : BitVec 1 := Scalar.cmpi .sge arg0 c9_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_9 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_10 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S32x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S224x256 .f16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S224x256 .f16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3584 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S224x256 .f16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S224x256 .f16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1152 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S72x1024 .f16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S72x1024 .f16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S32x1x7168 : Shape := ⟨3, ![32, 1, 7168]⟩
abbrev S2304x3584 : Shape := ⟨2, ![2304, 3584]⟩
abbrev S2304x224 : Shape := ⟨2, ![2304, 224]⟩
abbrev S7168x1152 : Shape := ⟨2, ![7168, 1152]⟩
abbrev S7168x72 : Shape := ⟨2, ![7168, 72]⟩
abbrev S32x7168 : Shape := ⟨2, ![32, 7168]⟩
abbrev S32x224x32 : Shape := ⟨3, ![32, 224, 32]⟩
abbrev S32x224x16 : Shape := ⟨3, ![32, 224, 16]⟩
abbrev S32x3584 : Shape := ⟨2, ![32, 3584]⟩
abbrev S2304x224x1 : Shape := ⟨3, ![2304, 224, 1]⟩
abbrev S2304x224x16 : Shape := ⟨3, ![2304, 224, 16]⟩
abbrev S2304x7168 : Shape := ⟨2, ![2304, 7168]⟩
abbrev S32x2304 : Shape := ⟨2, ![32, 2304]⟩
abbrev S32x72x32 : Shape := ⟨3, ![32, 72, 32]⟩
abbrev S32x72x16 : Shape := ⟨3, ![32, 72, 16]⟩
abbrev S32x1152 : Shape := ⟨2, ![32, 1152]⟩
abbrev S7168x72x1 : Shape := ⟨3, ![7168, 72, 1]⟩
abbrev S7168x72x16 : Shape := ⟨3, ![7168, 72, 16]⟩
abbrev S7168x2304 : Shape := ⟨2, ![7168, 2304]⟩

abbrev nBuf : Space → Nat
  | .hbm => 12
  | .vmem => 11
  | .smem => 0
  | _ => 0

abbrev bufTy : (tb : Table) → Fin (tcTables nBuf tb) → BufTy
  | .hbm, ⟨0, _⟩ => ⟨S32x1x7168, .bf16⟩
  | .hbm, ⟨1, _⟩ => ⟨S2304x3584, .i8⟩
  | .hbm, ⟨2, _⟩ => ⟨S2304x224, .f16⟩
  | .hbm, ⟨3, _⟩ => ⟨S2304x224, .f16⟩
  | .hbm, ⟨4, _⟩ => ⟨S2304x3584, .i8⟩
  | .hbm, ⟨5, _⟩ => ⟨S2304x224, .f16⟩
  | .hbm, ⟨6, _⟩ => ⟨S2304x224, .f16⟩
  | .hbm, ⟨7, _⟩ => ⟨S7168x1152, .i8⟩
  | .hbm, ⟨8, _⟩ => ⟨S7168x72, .f16⟩
  | .hbm, ⟨9, _⟩ => ⟨S7168x72, .f16⟩
  | .hbm, ⟨10, _⟩ => ⟨S32x7168, .bf16⟩
  | .hbm, ⟨11, _⟩ => ⟨S32x7168, .bf16⟩
  | .local _ .vmem, ⟨0, _⟩ => ⟨S32x7168, .bf16⟩
  | .local _ .vmem, ⟨1, _⟩ => ⟨S2304x3584, .i8⟩
  | .local _ .vmem, ⟨2, _⟩ => ⟨S2304x224, .f16⟩
  | .local _ .vmem, ⟨3, _⟩ => ⟨S2304x224, .f16⟩
  | .local _ .vmem, ⟨4, _⟩ => ⟨S2304x3584, .i8⟩
  | .local _ .vmem, ⟨5, _⟩ => ⟨S2304x224, .f16⟩
  | .local _ .vmem, ⟨6, _⟩ => ⟨S2304x224, .f16⟩
  | .local _ .vmem, ⟨7, _⟩ => ⟨S7168x1152, .i8⟩
  | .local _ .vmem, ⟨8, _⟩ => ⟨S7168x72, .f16⟩
  | .local _ .vmem, ⟨9, _⟩ => ⟨S7168x72, .f16⟩
  | .local _ .vmem, ⟨10, _⟩ => ⟨S32x7168, .bf16⟩
  | _, _ => ⟨S32x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S32x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x3584 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x224 .f16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2304x224 .f16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x3584 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2304x224 .f16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2304x224 .f16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7168x1152 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7168x72 .f16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7168x72 .f16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x7168 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Value.Codes.lean ====
/- Four-bit codes: a byte's low and high halves read through a word of four bytes, and what the eight-bit float pattern
   of such a half denotes as an extended real. -/
module

public import Idealize.ShloMosaic.Lib.BitcastFour
public import Idealize.ShloMosaic.Lib.Pointwise

@[expose] public section

noncomputable section

namespace Cert.Codes

open Idealize.ShloMosaic

/-- The low half of a byte, as a number. -/
def lo (b : BitVec 8) : EReal := (((b &&& 15#8).toNat : ℝ) : EReal)

/-- The high half of a byte, as a number. -/
def hi (b : BitVec 8) : EReal := (((b >>> 4).toNat : ℝ) : EReal)

section Words

variable {s t : Shape}

/-- A byte array read as words and back as bytes is itself, bit by bit: bit `i` of byte `j` is bit `8 (row mod 4) + i` of its word. -/
theorem back_row (h : s.Bitcasts 32 t 8) (j : t.Idx) (i : ℕ) (hi : i < 8) :
    (t.row j * 8 + i) / 32 = t.row j / 4 ∧ (t.row j * 8 + i) % 32 = 8 * (t.row j % 4) + i := by
  constructor <;> omega

theorem mask_bit : ∀ q : Fin 32, (0x0F0F0F0F#32 : BitVec 32).getLsbD q = decide (q.val % 8 < 4) := by decide

theorem mask8_bit : ∀ q : Fin 8, (15#8 : BitVec 8).getLsbD q = decide (q.val < 4) := by decide

end Words

/-- Bytes `[128, 256]` read as words, each word masked to the low half of every byte, and read as bytes again: the low halves. -/
theorem lo_words (v : (⟨2, ![128, 256]⟩ : Shape).Idx → BitVec 8)
    (h1 : (⟨2, ![128, 256]⟩ : Shape).Bitcasts 8 ⟨2, ![32, 256]⟩ 32) (h2 : (⟨2, ![32, 256]⟩ : Shape).Bitcasts 32 ⟨2, ![128, 256]⟩ 8)
    (p : Fin 128) (l : Fin 256) :
    bitcast ⟨2, ![128, 256]⟩ 8 (andi (bitcast ⟨2, ![32, 256]⟩ 32 v h1) (broadcast ⟨2, ![32, 256]⟩ (252645135#32 : BitVec 32))) h2 (ix2 p l)
      = v (ix2 p l) &&& 15#8 := by
  rw [ix2_eq_valueIdx]
  apply BitVec.eq_of_getLsbD_eq
  intro i hi
  have hrow : (⟨2, ![128, 256]⟩ : Shape).row (ValueIdx.ix2 p l) = p.val := rfl
  rw [bitcast_getLsbD _ h2 _ i hi (by decide)]
  have hsrc : h2.srcIdx (ValueIdx.ix2 p l) (((⟨2, ![128, 256]⟩ : Shape).row (ValueIdx.ix2 p l) * 8 + i) / 32) (fun a ha =>
          (Nat.div_lt_iff_lt_mul (by decide)).2 (h2.pos_lt (ValueIdx.ix2 p l) i hi a ha)) = ValueIdx.ix2 (⟨p.val / 4, by omega⟩ : Fin 32) l := by
    funext c
    match c with
    | ⟨0, _⟩ => exact Fin.ext ((h2.srcIdx_row _ _ _ ⟨0, Nat.zero_lt_two⟩ rfl).trans (by rw [hrow]; show _ = p.val / 4; omega))
    | ⟨1, _⟩ => exact Fin.ext (h2.srcIdx_other _ _ _ ⟨1, Nat.one_lt_two⟩ (by show ¬ 1 + 2 = 2; omega))
  rw [hsrc, hrow]
  have hq : (p.val * 8 + i) % 32 < 32 := Nat.mod_lt _ (by decide)
  show (bitcast (⟨2, ![32, 256]⟩ : Shape) 32 v h1 (ValueIdx.ix2 _ l) &&& 252645135#32).getLsbD _ = _
  rw [BitVec.getLsbD_and, BitVec.getLsbD_and, bitcast_8_32_getLsbD_ix2 v h1 _ l _ hq p (by show p.val = 4 * (p.val / 4) + _; omega)]
  have e1 := mask_bit ⟨_, hq⟩
  have e2 := mask8_bit ⟨i, hi⟩
  dsimp only at e1 e2
  rw [e1, e2]
  have : (p.val * 8 + i) % 32 % 8 = i := by omega
  rw [this]

/-- … and each word shifted down by half a byte first: the high halves. -/
theorem hi_words (v : (⟨2, ![128, 256]⟩ : Shape).Idx → BitVec 8)
    (h1 : (⟨2, ![128, 256]⟩ : Shape).Bitcasts 8 ⟨2, ![32, 256]⟩ 32) (h2 : (⟨2, ![32, 256]⟩ : Shape).Bitcasts 32 ⟨2, ![128, 256]⟩ 8)
    (p : Fin 128) (l : Fin 256) :
    bitcast ⟨2, ![128, 256]⟩ 8 (andi (shrui (bitcast ⟨2, ![32, 256]⟩ 32 v h1) (broadcast ⟨2, ![32, 256]⟩ (4#32 : BitVec 32)))
        (broadcast ⟨2, ![32, 256]⟩ (252645135#32 : BitVec 32))) h2 (ix2 p l)
      = v (ix2 p l) >>> 4 := by
  rw [ix2_eq_valueIdx]
  apply BitVec.eq_of_getLsbD_eq
  intro i hi
  have hrow : (⟨2, ![128, 256]⟩ : Shape).row (ValueIdx.ix2 p l) = p.val := rfl
  rw [bitcast_getLsbD _ h2 _ i hi (by decide)]
  have hsrc : h2.srcIdx (ValueIdx.ix2 p l) (((⟨2, ![128, 256]⟩ : Shape).row (ValueIdx.ix2 p l) * 8 + i) / 32) (fun a ha =>
          (Nat.div_lt_iff_lt_mul (by decide)).2 (h2.pos_lt (ValueIdx.ix2 p l) i hi a ha)) = ValueIdx.ix2 (⟨p.val / 4, by omega⟩ : Fin 32) l := by
    funext c
    match c with
    | ⟨0, _⟩ => exact Fin.ext ((h2.srcIdx_row _ _ _ ⟨0, Nat.zero_lt_two⟩ rfl).trans (by rw [hrow]; show _ = p.val / 4; omega))
    | ⟨1, _⟩ => exact Fin.ext (h2.srcIdx_other _ _ _ ⟨1, Nat.one_lt_two⟩ (by show ¬ 1 + 2 = 2; omega))
  rw [hsrc, hrow]
  have hq : (p.val * 8 + i) % 32 < 32 := Nat.mod_lt _ (by decide)
  have hsh : ∀ w : BitVec 32, IntOp.shrui .vector w 4#32 = w >>> 4 := fun w => by simp [IntOp.shrui]
  show (IntOp.shrui .vector (bitcast (⟨2, ![32, 256]⟩ : Shape) 32 v h1 (ValueIdx.ix2 _ l)) 4#32 &&& 252645135#32).getLsbD _ = _
  rw [hsh, BitVec.getLsbD_and, BitVec.getLsbD_ushiftRight, BitVec.getLsbD_ushiftRight]
  have e1 := mask_bit ⟨_, hq⟩
  dsimp only at e1
  rw [e1]
  have e3 : (p.val * 8 + i) % 32 % 8 = i := by omega
  rw [e3]
  by_cases h4 : i < 4
  · rw [bitcast_8_32_getLsbD_ix2 v h1 _ l (4 + (p.val * 8 + i) % 32) (by omega) p (by show p.val = 4 * (p.val / 4) + _; omega)]
    have : (4 + (p.val * 8 + i) % 32) % 8 = 4 + i := by omega
    rw [this]; simp [h4]
  · rw [BitVec.getLsbD_of_ge (v (ValueIdx.ix2 p l)) (4 + i) (by omega)]; simp [h4]

/-- The unit of the eight-bit format: the pattern of a code denotes this many times the code. -/
def tiny : EReal := (((2 : ℝ) ^ (-9 : ℤ) : ℝ) : EReal)

/-- The pattern `n`, `n < 16`, denotes `n` units. -/
theorem pattern (b : BitVec 8) (h : b.toNat < 16) : Ideal.ofBits .fp8e4m3 b = ((b.toNat : ℝ) : EReal) * tiny := by
  have hb : b = BitVec.ofNat 8 b.toNat := by simp
  generalize b.toNat = n at *
  subst hb
  unfold tiny
  rw [← EReal.coe_mul]
  interval_cases n <;> simp [Ideal.ofBits, Ideal.e4m3fn, -EReal.coe_mul] <;> norm_num

theorem pattern_lo (b : BitVec 8) : Ideal.ofBits .fp8e4m3 (b &&& 15#8) = lo b * tiny :=
  pattern _ (by
    rw [BitVec.toNat_and]; exact Nat.lt_succ_of_le Nat.and_le_right)

theorem pattern_hi (b : BitVec 8) : Ideal.ofBits .fp8e4m3 (b >>> 4) = hi b * tiny :=
  pattern _ (by have := b.isLt; rw [BitVec.toNat_ushiftRight, Nat.shiftRight_eq_div_pow]; omega)

/-- The scale's factor is the unit's inverse. -/
theorem tiny_unit : tiny * Ideal.ofBits .f32 0x44000000#32 = 1 := by
  unfold tiny
  have : Ideal.ofBits .f32 0x44000000#32 = ((512 : ℝ) : EReal) := by simp [Ideal.ofBits, Ideal.ieee, -EReal.coe_mul]; norm_num
  rw [this, ← EReal.coe_mul]; norm_num

/-- A code in the eight-bit format times a scale carrying the unit's inverse is the code times the scale. -/
theorem unit_cancel (a s : EReal) : a * tiny * (s * Ideal.ofBits .f32 0x44000000#32) = a * s := by
  rw [mul_comm s, mul_assoc, ← mul_assoc tiny, tiny_unit, one_mul]

/-- The low half through the integer conversion. -/
theorem uitofp_lo (b : BitVec 8) : FloatOps.uitofp (F := Ideal) .f32 (IntOp.andi b 15#8) = lo b := rfl

/-- The high half through a widening, a shift and the integer conversion. -/
theorem sitofp_hi (b : BitVec 8) : FloatOps.sitofp (F := Ideal) .f32 (IntOp.shrsi .vector (b.setWidth 32) 4#32) = hi b := by
  have : (IntOp.shrsi .vector (b.setWidth 32) 4#32).toInt = ((b >>> 4).toNat : ℤ) := by
    revert b; decide +kernel
  show (((IntOp.shrsi .vector (b.setWidth 32) 4#32).toInt : ℝ) : EReal) = hi b
  unfold hi
  rw [this, Int.cast_natCast]

end Cert.Codes

end
-- ==== Proof.Value.Spec.lean ====
/- The problem's mathematics at the extended reals: a linear layer over weights held as four-bit codes with a scale and an
   offset per group of 32, and the two layers of the block. -/
module

public import proofs.«01_k».proof.Proof.Value.Codes

@[expose] public section

noncomputable section

namespace Cert.Spec

open Idealize.ShloMosaic Cert.Codes

section Linear

/-- The group of packed position `p`. -/
def grp {P G : ℕ} (hP : P = 16 * G) (p : Fin P) : Fin G := ⟨p.val / 16, by omega⟩

variable {B N P G D : ℕ} (hP : P = 16 * G) (hD : D = 32 * G)

/-- The activation that meets packed position `p`'s low code … -/
def ilo (p : Fin P) : Fin D := ⟨p.val / 16 * 32 + p.val % 16, by omega⟩

/-- … and its high code: each group of 32 holds its sixteen low codes' positions, then its sixteen high codes'. -/
def ihi (p : Fin P) : Fin D := ⟨p.val / 16 * 32 + (16 + p.val % 16), by omega⟩

/-- Row `n` of the layer at activations `x b`: the low codes' sum and the high codes' sum. -/
def lin (x : Fin B → Fin D → EReal) (q : Fin N → Fin P → BitVec 8) (s m : Fin N → Fin G → EReal) (b : Fin B) (n : Fin N) : EReal :=
  (∑ p : Fin P, x b (ilo hP hD p) * (lo (q n p) * s n (grp hP p) + m n (grp hP p)))
    + ∑ p : Fin P, x b (ihi hP hD p) * (hi (q n p) * s n (grp hP p) + m n (grp hP p))

end Linear

/-- `g · σ(g) · u`. -/
def act (g u : EReal) : EReal := g * Ideal.logistic g * u

/-- The hidden layer. -/
def hid (x : Fin 32 → Fin 7168 → EReal) (gq : Fin 2304 → Fin 3584 → BitVec 8) (gs gm : Fin 2304 → Fin 224 → EReal)
    (uq : Fin 2304 → Fin 3584 → BitVec 8) (us um : Fin 2304 → Fin 224 → EReal) (b : Fin 32) (n : Fin 2304) : EReal :=
  act (lin (P := 3584) (G := 224) (D := 7168) rfl rfl x gq gs gm b n) (lin (P := 3584) (G := 224) (D := 7168) rfl rfl x uq us um b n)

/-- The whole block. -/
def mlp (x : Fin 32 → Fin 7168 → EReal) (gq : Fin 2304 → Fin 3584 → BitVec 8) (gs gm : Fin 2304 → Fin 224 → EReal)
    (uq : Fin 2304 → Fin 3584 → BitVec 8) (us um : Fin 2304 → Fin 224 → EReal)
    (dq : Fin 7168 → Fin 1152 → BitVec 8) (ds dm : Fin 7168 → Fin 72 → EReal) (b : Fin 32) (n : Fin 7168) : EReal :=
  lin (P := 1152) (G := 72) (D := 2304) rfl rfl (hid x gq gs gm uq us um) dq ds dm b n

/-- A rank-two array by its two coordinates. -/
abbrev at2 {a b : ℕ} {α : Type} (v : (⟨2, ![a, b]⟩ : Shape).Idx → α) : Fin a → Fin b → α := fun i j => v (ix2 i j)

end Cert.Spec

end
-- ==== Proof.Value.Blocks.lean ====
/- What the kernel's blocks hold, in terms of the argument arrays: the activations whole, the block of the first two layers'
   weights at each of the first nine points, and the block of the last layer's at each of the last seven. -/
module

public import proofs.«01_k».proof.Proof.Gen.KernelIdeal.Frame
public import proofs.«01_k».proof.Proof.Value.Spec
public import Idealize.ShloMosaic.Lib.Pipeline.ValueKit.Point

@[expose] public section

set_option maxRecDepth 16384

noncomputable section

namespace Cert.KernelIdeal.Gen

open Idealize.ShloMosaic Idealize.ShloMosaic.TcCoe Idealize.SL.Sem Cert.Spec

/-- The first two layers' weights move a block of rows a point, until the ninth point … -/
theorem index0_1 : ∀ t : Fin cfg0.N, t.val < 9 → win0_1.index t = ![t.val, 0] :=
  (by decide +kernel : ∀ t : Fin grid0.N, t.val < 9 → win0_1.index t = ![t.val, 0])
theorem index0_2 : ∀ t : Fin cfg0.N, t.val < 9 → win0_2.index t = ![0, t.val] :=
  (by decide +kernel : ∀ t : Fin grid0.N, t.val < 9 → win0_2.index t = ![0, t.val])
theorem index0_3 : ∀ t : Fin cfg0.N, t.val < 9 → win0_3.index t = ![0, t.val] :=
  (by decide +kernel : ∀ t : Fin grid0.N, t.val < 9 → win0_3.index t = ![0, t.val])
theorem index0_5 : ∀ t : Fin cfg0.N, t.val < 9 → win0_5.index t = ![0, t.val] :=
  (by decide +kernel : ∀ t : Fin grid0.N, t.val < 9 → win0_5.index t = ![0, t.val])
theorem index0_6 : ∀ t : Fin cfg0.N, t.val < 9 → win0_6.index t = ![0, t.val] :=
  (by decide +kernel : ∀ t : Fin grid0.N, t.val < 9 → win0_6.index t = ![0, t.val])
theorem index0_4 : ∀ t : Fin cfg0.N, t.val < 9 → win0_4.index t = ![t.val, 0] :=
  (by decide +kernel : ∀ t : Fin grid0.N, t.val < 9 → win0_4.index t = ![t.val, 0])
/-- … the last layer's from the tenth point on, with the output's columns. -/
theorem index0_7 : ∀ t : Fin cfg0.N, 9 ≤ t.val → win0_7.index t = ![t.val - 9, 0] :=
  (by decide +kernel : ∀ t : Fin grid0.N, 9 ≤ t.val → win0_7.index t = ![t.val - 9, 0])
theorem index0_8 : ∀ t : Fin cfg0.N, 9 ≤ t.val → win0_8.index t = ![0, t.val - 9] :=
  (by decide +kernel : ∀ t : Fin grid0.N, 9 ≤ t.val → win0_8.index t = ![0, t.val - 9])
theorem index0_9 : ∀ t : Fin cfg0.N, 9 ≤ t.val → win0_9.index t = ![0, t.val - 9] :=
  (by decide +kernel : ∀ t : Fin grid0.N, 9 ≤ t.val → win0_9.index t = ![0, t.val - 9])
theorem index0_10 : ∀ t : Fin cfg0.N, 9 ≤ t.val → win0_10.index t = ![0, t.val - 9] :=
  (by decide +kernel : ∀ t : Fin grid0.N, 9 ≤ t.val → win0_10.index t = ![0, t.val - 9])
theorem index0_0 : ∀ t : Fin cfg0.N, win0_0.index t = ![0, 0] :=
  (by decide +kernel : ∀ t : Fin grid0.N, win0_0.index t = ![0, 0])

variable (m : (ℓ : Loc nD τ sig) → Buf (Elt Ideal) ℓ)

/-! ## The arguments -/

/-- The activations, as rows. -/
def argX (c : Dev nD) : Vec Ideal S32x7168 .bf16 :=
  shapeCast S32x7168 (m ((c : Thread nD τ).loc main_arg0) : Vec Ideal S32x1x7168 .bf16) shapeCasts_S32x1x7168_S32x7168
abbrev argGq (c : Dev nD) : Vec Ideal S2304x3584 .i8 := m ((c : Thread nD τ).loc main_arg1)
abbrev argGs (c : Dev nD) : Vec Ideal S2304x224 .f16 := m ((c : Thread nD τ).loc main_arg2)
abbrev argGm (c : Dev nD) : Vec Ideal S2304x224 .f16 := m ((c : Thread nD τ).loc main_arg3)
abbrev argUq (c : Dev nD) : Vec Ideal S2304x3584 .i8 := m ((c : Thread nD τ).loc main_arg4)
abbrev argUs (c : Dev nD) : Vec Ideal S2304x224 .f16 := m ((c : Thread nD τ).loc main_arg5)
abbrev argUm (c : Dev nD) : Vec Ideal S2304x224 .f16 := m ((c : Thread nD τ).loc main_arg6)
abbrev argDq (c : Dev nD) : Vec Ideal S7168x1152 .i8 := m ((c : Thread nD τ).loc main_arg7)
abbrev argDs (c : Dev nD) : Vec Ideal S7168x72 .f16 := m ((c : Thread nD τ).loc main_arg8)
abbrev argDm (c : Dev nD) : Vec Ideal S7168x72 .f16 := m ((c : Thread nD τ).loc main_arg9)

/-- The hidden layer and the block's result, of the arguments. -/
def hidOf (c : Dev nD) : Fin 32 → Fin 2304 → EReal :=
  hid (at2 (argX m c)) (at2 (argGq m c)) (at2 (argGs m c)) (at2 (argGm m c)) (at2 (argUq m c)) (at2 (argUs m c)) (at2 (argUm m c))
def mlpOf (c : Dev nD) : Fin 32 → Fin 7168 → EReal :=
  mlp (at2 (argX m c)) (at2 (argGq m c)) (at2 (argGs m c)) (at2 (argGm m c)) (at2 (argUq m c)) (at2 (argUs m c)) (at2 (argUm m c))
    (at2 (argDq m c)) (at2 (argDs m c)) (at2 (argDm m c))

/-! ## What the host's operations leave -/

theorem V_main_v0 (c : Dev nD) : V m c main_v0 = argX m c := by
  entry_read; rfl
theorem V_main_v1 (c : Dev nD) (g : Fin 224) (n : Fin 2304) : (V m c main_v1 : Vec Ideal S224x2304 .f16) (ix2 g n) = argGs m c (ix2 n g) := by
  entry_read; pointwise
theorem V_main_v2 (c : Dev nD) (g : Fin 224) (n : Fin 2304) : (V m c main_v2 : Vec Ideal S224x2304 .f16) (ix2 g n) = argGm m c (ix2 n g) := by
  entry_read; pointwise
theorem V_main_v3 (c : Dev nD) (g : Fin 224) (n : Fin 2304) : (V m c main_v3 : Vec Ideal S224x2304 .f16) (ix2 g n) = argUs m c (ix2 n g) := by
  entry_read; pointwise
theorem V_main_v4 (c : Dev nD) (g : Fin 224) (n : Fin 2304) : (V m c main_v4 : Vec Ideal S224x2304 .f16) (ix2 g n) = argUm m c (ix2 n g) := by
  entry_read; pointwise
theorem V_main_v5 (c : Dev nD) (g : Fin 72) (n : Fin 7168) : (V m c main_v5 : Vec Ideal S72x7168 .f16) (ix2 g n) = argDs m c (ix2 n g) := by
  entry_read; pointwise
theorem V_main_v6 (c : Dev nD) (g : Fin 72) (n : Fin 7168) : (V m c main_v6 : Vec Ideal S72x7168 .f16) (ix2 g n) = argDm m c (ix2 n g) := by
  entry_read; pointwise

/-! ## The blocks -/

theorem iblk0_apply (c : Dev nD) (t : Fin cfg0.N) : (iblk m c 0 t : Vec Ideal S32x7168 .bf16) = argX m c := by
  have e := index0_0 t
  have e0 : win0_0.index t (0 : Fin 2) = 0 := congrFun e 0
  have e1 : win0_0.index t (1 : Fin 2) = 0 := congrFun e 1
  funext z
  show V m c main_v0 (((cfg0.win 0).blk t).view.emb z) = _
  rw [V_main_v0]
  refine congrArg (argX m c) (funext fun a => Fin.ext ?_)
  match a with
  | ⟨0, _⟩ => show win0_0.index t (0 : Fin 2) * 32 + 1 * (z 0).val = (z 0).val; omega
  | ⟨1, _⟩ => show win0_0.index t (1 : Fin 2) * 7168 + 1 * (z 1).val = (z 1).val; omega

theorem iblk1_apply (c : Dev nD) (t : Fin cfg0.N) (ht : t.val < 9) (n : Fin 256) (p : Fin 3584) :
    (iblk m c 1 t : Vec Ideal S256x3584 .i8) (ix2 n p) = argGq m c (ix2 ⟨256 * t.val + n.val, by have := n.isLt; have := lt_of_lt_of_eq t.isLt (show cfg0.N = 16 from N_0); omega⟩ p) := by
  have e := index0_1 t ht
  have e0 : win0_1.index t (0 : Fin 2) = t.val := congrFun e 0
  have e1 : win0_1.index t (1 : Fin 2) = 0 := congrFun e 1
  show V m c main_arg1 (((cfg0.win 1).blk t).view.emb (ix2 n p)) = _
  rw [V_main_arg1]
  refine congrArg (argGq m c) (funext fun a => Fin.ext ?_)
  match a with
  | ⟨0, _⟩ => show win0_1.index t (0 : Fin 2) * 256 + 1 * n.val = 256 * t.val + n.val; rw [e0]; omega
  | ⟨1, _⟩ => show win0_1.index t (1 : Fin 2) * 3584 + 1 * p.val = p.val; omega

theorem iblk2_apply (c : Dev nD) (t : Fin cfg0.N) (ht : t.val < 9) (g : Fin 224) (n : Fin 256) :
    (iblk m c 2 t : Vec Ideal S224x256 .f16) (ix2 g n) = argGs m c (ix2 ⟨256 * t.val + n.val, by have := n.isLt; have := lt_of_lt_of_eq t.isLt (show cfg0.N = 16 from N_0); omega⟩ g) := by
  have e := index0_2 t ht
  have e0 : win0_2.index t (0 : Fin 2) = 0 := congrFun e 0
  have e1 : win0_2.index t (1 : Fin 2) = t.val := congrFun e 1
  refine Eq.trans ?_ (V_main_v1 m c g _)
  show V m c main_v1 (((cfg0.win 2).blk t).view.emb (ix2 g n)) = _
  refine congrArg (V m c main_v1) (funext fun a => Fin.ext ?_)
  match a with
  | ⟨0, _⟩ => show win0_2.index t (0 : Fin 2) * 224 + 1 * g.val = g.val; omega
  | ⟨1, _⟩ => show win0_2.index t (1 : Fin 2) * 256 + 1 * n.val = 256 * t.val + n.val; rw [e1]; omega

theorem iblk3_apply (c : Dev nD) (t : Fin cfg0.N) (ht : t.val < 9) (g : Fin 224) (n : Fin 256) :
    (iblk m c 3 t : Vec Ideal S224x256 .f16) (ix2 g n) = argGm m c (ix2 ⟨256 * t.val + n.val, by have := n.isLt; have := lt_of_lt_of_eq t.isLt (show cfg0.N = 16 from N_0); omega⟩ g) := by
  have e := index0_3 t ht
  have e0 : win0_3.index t (0 : Fin 2) = 0 := congrFun e 0
  have e1 : win0_3.index t (1 : Fin 2) = t.val := congrFun e 1
  refine Eq.trans ?_ (V_main_v2 m c g _)
  show V m c main_v2 (((cfg0.win 3).blk t).view.emb (ix2 g n)) = _
  refine congrArg (V m c main_v2) (funext fun a => Fin.ext ?_)
  match a with
  | ⟨0, _⟩ => show win0_3.index t (0 : Fin 2) * 224 + 1 * g.val = g.val; omega
  | ⟨1, _⟩ => show win0_3.index t (1 : Fin 2) * 256 + 1 * n.val = 256 * t.val + n.val; rw [e1]; omega

theorem iblk4_apply (c : Dev nD) (t : Fin cfg0.N) (ht : t.val < 9) (n : Fin 256) (p : Fin 3584) :
    (iblk m c 4 t : Vec Ideal S256x3584 .i8) (ix2 n p) = argUq m c (ix2 ⟨256 * t.val + n.val, by have := n.isLt; have := lt_of_lt_of_eq t.isLt (show cfg0.N = 16 from N_0); omega⟩ p) := by
  have e := index0_4 t ht
  have e0 : win0_4.index t (0 : Fin 2) = t.val := congrFun e 0
  have e1 : win0_4.index t (1 : Fin 2) = 0 := congrFun e 1
  show V m c main_arg4 (((cfg0.win 4).blk t).view.emb (ix2 n p)) = _
  rw [V_main_arg4]
  refine congrArg (argUq m c) (funext fun a => Fin.ext ?_)
  match a with
  | ⟨0, _⟩ => show win0_4.index t (0 : Fin 2) * 256 + 1 * n.val = 256 * t.val + n.val; rw [e0]; omega
  | ⟨1, _⟩ => show win0_4.index t (1 : Fin 2) * 3584 + 1 * p.val = p.val; omega

theorem iblk5_apply (c : Dev nD) (t : Fin cfg0.N) (ht : t.val < 9) (g : Fin 224) (n : Fin 256) :
    (iblk m c 5 t : Vec Ideal S224x256 .f16) (ix2 g n) = argUs m c (ix2 ⟨256 * t.val + n.val, by have := n.isLt; have := lt_of_lt_of_eq t.isLt (show cfg0.N = 16 from N_0); omega⟩ g) := by
  have e := index0_5 t ht
  have e0 : win0_5.index t (0 : Fin 2) = 0 := congrFun e 0
  have e1 : win0_5.index t (1 : Fin 2) = t.val := congrFun e 1
  refine Eq.trans ?_ (V_main_v3 m c g _)
  show V m c main_v3 (((cfg0.win 5).blk t).view.emb (ix2 g n)) = _
  refine congrArg (V m c main_v3) (funext fun a => Fin.ext ?_)
  match a with
  | ⟨0, _⟩ => show win0_5.index t (0 : Fin 2) * 224 + 1 * g.val = g.val; omega
  | ⟨1, _⟩ => show win0_5.index t (1 : Fin 2) * 256 + 1 * n.val = 256 * t.val + n.val; rw [e1]; omega

theorem iblk6_apply (c : Dev nD) (t : Fin cfg0.N) (ht : t.val < 9) (g : Fin 224) (n : Fin 256) :
    (iblk m c 6 t : Vec Ideal S224x256 .f16) (ix2 g n) = argUm m c (ix2 ⟨256 * t.val + n.val, by have := n.isLt; have := lt_of_lt_of_eq t.isLt (show cfg0.N = 16 from N_0); omega⟩ g) := by
  have e := index0_6 t ht
  have e0 : win0_6.index t (0 : Fin 2) = 0 := congrFun e 0
  have e1 : win0_6.index t (1 : Fin 2) = t.val := congrFun e 1
  refine Eq.trans ?_ (V_main_v4 m c g _)
  show V m c main_v4 (((cfg0.win 6).blk t).view.emb (ix2 g n)) = _
  refine congrArg (V m c main_v4) (funext fun a => Fin.ext ?_)
  match a with
  | ⟨0, _⟩ => show win0_6.index t (0 : Fin 2) * 224 + 1 * g.val = g.val; omega
  | ⟨1, _⟩ => show win0_6.index t (1 : Fin 2) * 256 + 1 * n.val = 256 * t.val + n.val; rw [e1]; omega

theorem iblk7_apply (c : Dev nD) (t : Fin cfg0.N) (ht : 9 ≤ t.val) (n : Fin 1024) (p : Fin 1152) :
    (iblk m c 7 t : Vec Ideal S1024x1152 .i8) (ix2 n p) = argDq m c (ix2 ⟨1024 * (t.val - 9) + n.val, by have := n.isLt; have := lt_of_lt_of_eq t.isLt (show cfg0.N = 16 from N_0); omega⟩ p) := by
  have e := index0_7 t ht
  have e0 : win0_7.index t (0 : Fin 2) = (t.val - 9) := congrFun e 0
  have e1 : win0_7.index t (1 : Fin 2) = 0 := congrFun e 1
  show V m c main_arg7 (((cfg0.win 7).blk t).view.emb (ix2 n p)) = _
  rw [V_main_arg7]
  refine congrArg (argDq m c) (funext fun a => Fin.ext ?_)
  match a with
  | ⟨0, _⟩ => show win0_7.index t (0 : Fin 2) * 1024 + 1 * n.val = 1024 * (t.val - 9) + n.val; rw [e0]; omega
  | ⟨1, _⟩ => show win0_7.index t (1 : Fin 2) * 1152 + 1 * p.val = p.val; omega

theorem iblk8_apply (c : Dev nD) (t : Fin cfg0.N) (ht : 9 ≤ t.val) (g : Fin 72) (n : Fin 1024) :
    (iblk m c 8 t : Vec Ideal S72x1024 .f16) (ix2 g n) = argDs m c (ix2 ⟨1024 * (t.val - 9) + n.val, by have := n.isLt; have := lt_of_lt_of_eq t.isLt (show cfg0.N = 16 from N_0); omega⟩ g) := by
  have e := index0_8 t ht
  have e0 : win0_8.index t (0 : Fin 2) = 0 := congrFun e 0
  have e1 : win0_8.index t (1 : Fin 2) = (t.val - 9) := congrFun e 1
  refine Eq.trans ?_ (V_main_v5 m c g _)
  show V m c main_v5 (((cfg0.win 8).blk t).view.emb (ix2 g n)) = _
  refine congrArg (V m c main_v5) (funext fun a => Fin.ext ?_)
  match a with
  | ⟨0, _⟩ => show win0_8.index t (0 : Fin 2) * 72 + 1 * g.val = g.val; omega
  | ⟨1, _⟩ => show win0_8.index t (1 : Fin 2) * 1024 + 1 * n.val = 1024 * (t.val - 9) + n.val; rw [e1]; omega

theorem iblk9_apply (c : Dev nD) (t : Fin cfg0.N) (ht : 9 ≤ t.val) (g : Fin 72) (n : Fin 1024) :
    (iblk m c 9 t : Vec Ideal S72x1024 .f16) (ix2 g n) = argDm m c (ix2 ⟨1024 * (t.val - 9) + n.val, by have := n.isLt; have := lt_of_lt_of_eq t.isLt (show cfg0.N = 16 from N_0); omega⟩ g) := by
  have e := index0_9 t ht
  have e0 : win0_9.index t (0 : Fin 2) = 0 := congrFun e 0
  have e1 : win0_9.index t (1 : Fin 2) = (t.val - 9) := congrFun e 1
  refine Eq.trans ?_ (V_main_v6 m c g _)
  show V m c main_v6 (((cfg0.win 9).blk t).view.emb (ix2 g n)) = _
  refine congrArg (V m c main_v6) (funext fun a => Fin.ext ?_)
  match a with
  | ⟨0, _⟩ => show win0_9.index t (0 : Fin 2) * 72 + 1 * g.val = g.val; omega
  | ⟨1, _⟩ => show win0_9.index t (1 : Fin 2) * 1024 + 1 * n.val = 1024 * (t.val - 9) + n.val; rw [e1]; omega

end Cert.KernelIdeal.Gen

end
-- ==== Proof.Body.Basic.lean ====
/- What the runs of the kernel's body share: the body's branch conditions in closed form over the grid's points, where its
   windows are idle, and the staging and scratch buffers a point works on. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points before point 9 — decided over the grid. -/
theorem hcond0_1 : ∀ t : Fin cfg0.N, cond0_1 (grid0.coords t) ↔ t.val < 9 :=
  (by decide +kernel : ∀ t : Fin grid0.N, cond0_1 (grid0.coords t) ↔ t.val < 9)

/-- The condition of the body's `scf.if` 2 (`k0_h3`), from the grid coordinates (the skeleton's scalar
    chain substituted). -/
abbrev cond0_2 (i : grid0.Coords) : Prop := k0_cond3 i = 1#1
/-- It holds at the points from point 9 on — decided over the grid. -/
theorem hcond0_2 : ∀ t : Fin cfg0.N, cond0_2 (grid0.coords t) ↔ 9 ≤ t.val :=
  (by decide +kernel : ∀ t : Fin grid0.N, cond0_2 (grid0.coords t) ↔ 9 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is idle at the first nine points … -/
theorem idleAt0_10 : ∀ t : Fin cfg0.N, t.val < 9 → cfg0.idle 10 (grid0.coords t) = true :=
  (by decide +kernel : ∀ t : Fin grid0.N, t.val < 9 → idle0 10 (grid0.coords t) = true)

/-- … where it is not written back … -/
theorem noflush0_10 : ∀ t : Fin cfg0.N, t.val < 9 → (cfg0.win 10).flush t = false :=
  (by decide +kernel : ∀ t : Fin grid0.N, t.val < 9 → win0_10.flush t = false)

/-- … and live at the last seven. -/
theorem liveAt0_10 : ∀ t : Fin cfg0.N, 9 ≤ t.val → cfg0.idle 10 (grid0.coords t) = false :=
  (by decide +kernel : ∀ t : Fin grid0.N, 9 ≤ t.val → idle0 10 (grid0.coords t) = false)

/-! ## The staging and scratch buffers a point works on -/

/-- Each window's current staging memref at point `t`, spelled as the pipeline passes it (`bodyAt0`), and its wholeness. -/
abbrev ms0_0 (t : Fin cfg0.N) : Memref sig .tc .vmem S32x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3584 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S224x256 .f16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S224x256 .f16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3584 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S224x256 .f16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S224x256 .f16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1152 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S72x1024 .f16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S72x1024 .f16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S32x1024 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S28x32x256 .bf16 := Memref.whole cc0_scratch0
abbrev scM0_1 : Memref sig .tc .vmem S9x32x256 .bf16 := Memref.whole cc0_scratch1
abbrev scM0_2 : Memref sig .tc .vmem S224x256 .f32 := Memref.whole cc0_scratch2
abbrev scM0_3 : Memref sig .tc .vmem S224x256 .f32 := Memref.whole cc0_scratch3
abbrev scM0_4 : Memref sig .tc .vmem S224x256 .f32 := Memref.whole cc0_scratch4
abbrev scM0_5 : Memref sig .tc .vmem S224x256 .f32 := Memref.whole cc0_scratch5
abbrev scM0_6 : Memref sig .tc .vmem S72x1024 .f32 := Memref.whole cc0_scratch6
abbrev scM0_7 : Memref sig .tc .vmem S72x1024 .f32 := Memref.whole cc0_scratch7
/-- The scratch `arg12` the kernel carries between points, as a view: what it holds is stated through it. -/
abbrev VS0_0 : View sig .tc .vmem S28x32x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.KernelIdeal.Gen

end
-- ==== Proof.Body.Tile.lean ====
/- The kernel's arithmetic, written once for every tile: the codes of a tile, its dequantized weights, a product with
   them, the sums over the tiles, the permutation of a block of activations, and what one point computes of its operands. -/
module

public import proofs.«01_k».proof.Proof.Body.Basic

@[expose] public section

set_option maxRecDepth 16384

noncomputable section

namespace Cert.KernelIdeal.Gen.Tile

open Idealize.ShloMosaic Idealize.SL.Sem

variable {F : FTy → Type} [FloatOps F]

/-- The bytes of a tile, transposed and read as words of four rows. -/
def words (q : Vec F S256x128 .i8) : IVec S32x256 32 :=
  bitcast S32x256 32 (transpose S128x256 [1, 0] q transposes_S256x128_p1_0_S128x256) bitcasts_S128x256_w8_S32x256_w32

/-- The low half of every byte of the words, as a float of eight bits, widened. -/
def half (w : IVec S32x256 32) : FVec F S128x256 .f32 :=
  extf .f32 (bitcastToFloat .fp8e4m3 (bitcast S128x256 8 (andi w (broadcast S32x256 252645135#32)) bitcasts_S32x256_w32_S128x256_w8)) bitsLt_fp8e4m3_f32

/-- The low halves of a tile's bytes. -/
def low (q : Vec F S256x128 .i8) : FVec F S128x256 .f32 := half (words (F := F) q)

/-- The high halves of a tile's bytes. -/
def high (q : Vec F S256x128 .i8) : FVec F S128x256 .f32 := half (shrui (words (F := F) q) (broadcast S32x256 4#32))

/-- One group of sixteen rows, scaled and shifted. -/
def piece {off : Fin 2 → ℕ} (h : S128x256.Slices off S16x256) (w : FVec F S128x256 .f32) (s m : Vec F S1x256 .f32) : FVec F S16x256 .bf16 :=
  truncf .bf16 (addf (mulf (extractStridedSlice S16x256 off w h) (broadcastTo S16x256 s broadcasts_S1x256_S16x256))
    (broadcastTo S16x256 m broadcasts_S1x256_S16x256)) bitsLt_bf16_f32

/-- The dequantized tile: the eight groups of low halves, then the eight groups of high halves. -/
def tile (q : Vec F S256x128 .i8) (s m : Fin 8 → Vec F S1x256 .f32) : FVec F S256x256 .bf16 :=
  concatenate S256x256 0
    [⟨S16x256, piece slices_S128x256_o0_0_S16x256 (low q) (s 0) (m 0)⟩,
     ⟨S16x256, piece slices_S128x256_o16_0_S16x256 (low q) (s 1) (m 1)⟩,
     ⟨S16x256, piece slices_S128x256_o32_0_S16x256 (low q) (s 2) (m 2)⟩,
     ⟨S16x256, piece slices_S128x256_o48_0_S16x256 (low q) (s 3) (m 3)⟩,
     ⟨S16x256, piece slices_S128x256_o64_0_S16x256 (low q) (s 4) (m 4)⟩,
     ⟨S16x256, piece slices_S128x256_o80_0_S16x256 (low q) (s 5) (m 5)⟩,
     ⟨S16x256, piece slices_S128x256_o96_0_S16x256 (low q) (s 6) (m 6)⟩,
     ⟨S16x256, piece slices_S128x256_o112_0_S16x256 (low q) (s 7) (m 7)⟩,
     ⟨S16x256, piece slices_S128x256_o0_0_S16x256 (high q) (s 0) (m 0)⟩,
     ⟨S16x256, piece slices_S128x256_o16_0_S16x256 (high q) (s 1) (m 1)⟩,
     ⟨S16x256, piece slices_S128x256_o32_0_S16x256 (high q) (s 2) (m 2)⟩,
     ⟨S16x256, piece slices_S128x256_o48_0_S16x256 (high q) (s 3) (m 3)⟩,
     ⟨S16x256, piece slices_S128x256_o64_0_S16x256 (high q) (s 4) (m 4)⟩,
     ⟨S16x256, piece slices_S128x256_o80_0_S16x256 (high q) (s 5) (m 5)⟩,
     ⟨S16x256, piece slices_S128x256_o96_0_S16x256 (high q) (s 6) (m 6)⟩,
     ⟨S16x256, piece slices_S128x256_o112_0_S16x256 (high q) (s 7) (m 7)⟩]
    concatenates_S16x256_S16x256_S16x256_S16x256_S16x256_S16x256_S16x256_S16x256_S16x256_S16x256_S16x256_S16x256_S16x256_S16x256_S16x256_S16x256_S256x256_d0

/-- A block of activations against a tile. -/
def prod (h : Vec F S1x32x256 .bf16) (q : Vec F S256x128 .i8) (s m : Fin 8 → Vec F S1x256 .f32) : FVec F S32x256 .f32 :=
  matmul dot_S32x256_S256x256_S32x256_1_0_0_1_n_n none (shapeCast S32x256 h shapeCasts_S1x32x256_S32x256) (tile q s m)
    (constant S32x256 .f32 0x00000000#32)

/-- The sum of 9 blocks, from the first. -/
def sum9 (p : Fin 9 → FVec F S32x256 .f32) : FVec F S32x256 .f32 :=
  addf (addf (addf (addf (addf (addf (addf (addf (p 0) (p 1)) (p 2)) (p 3)) (p 4)) (p 5)) (p 6)) (p 7)) (p 8)

/-- The sum of 28 blocks, from the first. -/
def sum28 (p : Fin 28 → FVec F S32x256 .f32) : FVec F S32x256 .f32 :=
  addf (addf (addf (addf (addf (addf (addf (addf (addf (addf (addf (addf (addf (addf (addf (addf (addf (addf (addf (addf (addf (addf (addf (addf (addf (addf (addf (p 0) (p 1)) (p 2)) (p 3)) (p 4)) (p 5)) (p 6)) (p 7)) (p 8)) (p 9)) (p 10)) (p 11)) (p 12)) (p 13)) (p 14)) (p 15)) (p 16)) (p 17)) (p 18)) (p 19)) (p 20)) (p 21)) (p 22)) (p 23)) (p 24)) (p 25)) (p 26)) (p 27)

/-- The permutation the activations are multiplied by: row `k` of a block's columns goes to the column of the code that meets it. -/
def perm : FVec F S256x256 .bf16 :=
  k0_pay11 (k0_pay9 (iota .tc S256x256 32 [0] iota_S256x256_d0_w32) k0_pay5 k0_pay6 16#32 k0_pay7 k0_pay8) (Scalar.ofBits .f32 0x00000000#32) k0_pay10

/-- A block of activations, permuted. -/
def slab (x : FVec F S32x256 .bf16) : FVec F S1x32x256 .bf16 :=
  shapeCast S1x32x256 (truncf .bf16 (matmul dot_S32x256_S256x256_S32x256_1_0_0_1_n_n none x perm (constant S32x256 .f32 0x00000000#32)) bitsLt_bf16_f32)
    shapeCasts_S32x256_S1x32x256

theorem inb_up_q (t : Fin 28) : ∀ a, (![0, 128 * t.val] : Fin 2 → Nat) a + S256x128.size a ≤ S256x3584.size a := by
  intro a; have := t.isLt; fin_cases a <;> simp [Shape.size] <;> omega

theorem inb_up_s (t : Fin 28) (g : Fin 8) : ∀ a, (![8 * t.val + g.val, 0] : Fin 2 → Nat) a + S1x256.size a ≤ S224x256.size a := by
  intro a; have := t.isLt; fin_cases a <;> simp [Shape.size] <;> omega

theorem inb_up_x (t : Fin 28) : ∀ a, (![t.val, 0, 0] : Fin 3 → Nat) a + S1x32x256.size a ≤ S28x32x256.size a := by
  intro a; have := t.isLt; fin_cases a <;> simp [Shape.size] <;> omega

theorem inb_row (t : Fin 28) : ∀ a, (![0, 256 * t.val] : Fin 2 → Nat) a + S32x256.size a ≤ S32x7168.size a := by
  intro a; have := t.isLt; fin_cases a <;> simp [Shape.size] <;> omega

theorem inb_down_q (c : Fin 4) (t : Fin 9) : ∀ a, (![256 * c.val, 128 * t.val] : Fin 2 → Nat) a + S256x128.size a ≤ S1024x1152.size a := by
  intro a; have := t.isLt; have := c.isLt; fin_cases a <;> simp [Shape.size] <;> omega

theorem inb_down_s (c : Fin 4) (t : Fin 9) (g : Fin 8) : ∀ a, (![8 * t.val + g.val, 256 * c.val] : Fin 2 → Nat) a + S1x256.size a ≤ S72x1024.size a := by
  intro a; have := t.isLt; have := c.isLt; fin_cases a <;> simp [Shape.size] <;> omega

theorem inb_down_x (t : Fin 9) : ∀ a, (![t.val, 0, 0] : Fin 3 → Nat) a + S1x32x256.size a ≤ S9x32x256.size a := by
  intro a; have := t.isLt; fin_cases a <;> simp [Shape.size] <;> omega

theorem inb_out (c : Fin 4) : ∀ a, (![0, 256 * c.val] : Fin 2 → Nat) a + S32x256.size a ≤ S32x1024.size a := by
  intro a; have := c.isLt; fin_cases a <;> simp [Shape.size] <;> omega

/-- The permuted activations times a matrix of codes, scales and shifts: the sum over its twenty-eight tiles. -/
def up (x : Vec F S28x32x256 .bf16) (q : Vec F S256x3584 .i8) (s m : Vec F S224x256 .f32) : FVec F S32x256 .f32 :=
  sum28 fun t => prod (View.ld x (Rect.unit ![t.val, 0, 0] S1x32x256.size (inb_up_x t)))
    (View.ld q (Rect.unit ![0, 128 * t.val] S256x128.size (inb_up_q t)))
    (fun g => View.ld s (Rect.unit ![8 * t.val + g.val, 0] S1x256.size (inb_up_s t g)))
    (fun g => View.ld m (Rect.unit ![8 * t.val + g.val, 0] S1x256.size (inb_up_s t g)))

/-- A block of 256 columns of the hidden layer. -/
def hidden (g u : FVec F S32x256 .f32) : FVec F S32x256 .bf16 :=
  truncf .bf16 (mulf (mulf g (logistic g)) u) bitsLt_bf16_f32

/-- A block of 256 columns of the output, before its rounding: the sum over the nine tiles. -/
def down (c : Fin 4) (x : Vec F S9x32x256 .bf16) (q : Vec F S1024x1152 .i8) (s m : Vec F S72x1024 .f32) : FVec F S32x256 .f32 :=
  sum9 fun t => prod (View.ld x (Rect.unit ![t.val, 0, 0] S1x32x256.size (inb_down_x t)))
    (View.ld q (Rect.unit ![256 * c.val, 128 * t.val] S256x128.size (inb_down_q c t)))
    (fun g => View.ld s (Rect.unit ![8 * t.val + g.val, 256 * c.val] S1x256.size (inb_down_s c t g)))
    (fun g => View.ld m (Rect.unit ![8 * t.val + g.val, 256 * c.val] S1x256.size (inb_down_s c t g)))

/-- A block of 256 columns of the output. -/
def column (c : Fin 4) (x : Vec F S9x32x256 .bf16) (q : Vec F S1024x1152 .i8) (s m : Vec F S72x1024 .f32) : FVec F S32x256 .bf16 :=
  truncf .bf16 (down c x q s m) bitsLt_bf16_f32

/-- The pieces a point of the second half stores in the output block, newest first. -/
def columns (x : Vec F S9x32x256 .bf16) (q : Vec F S1024x1152 .i8) (s m : Vec F S72x1024 .f32) : List (View.Piece (Elt F) S32x1024 .bf16) :=
  [⟨Rect.unit ![0, 256 * ((3 : Fin 4).val)] S32x256.size (inb_out 3), column 3 x q s m⟩,
   ⟨Rect.unit ![0, 256 * ((2 : Fin 4).val)] S32x256.size (inb_out 2), column 2 x q s m⟩,
   ⟨Rect.unit ![0, 256 * ((1 : Fin 4).val)] S32x256.size (inb_out 1), column 1 x q s m⟩,
   ⟨Rect.unit ![0, 256 * ((0 : Fin 4).val)] S32x256.size (inb_out 0), column 0 x q s m⟩]

/-- The permuted activations as the pieces the first point stores, newest first. -/
def slabs (x : Vec F S32x7168 .bf16) : List (View.Piece (Elt F) S28x32x256 .bf16) :=
  [⟨Rect.unit ![((27 : Fin 28).val), 0, 0] S1x32x256.size (inb_up_x 27), slab (shapeCast S32x256 (View.ld x (Rect.unit ![0, 256 * ((27 : Fin 28).val)] S32x256.size (inb_row 27))) shapeCasts_S32x256_S32x256)⟩,
   ⟨Rect.unit ![((26 : Fin 28).val), 0, 0] S1x32x256.size (inb_up_x 26), slab (shapeCast S32x256 (View.ld x (Rect.unit ![0, 256 * ((26 : Fin 28).val)] S32x256.size (inb_row 26))) shapeCasts_S32x256_S32x256)⟩,
   ⟨Rect.unit ![((25 : Fin 28).val), 0, 0] S1x32x256.size (inb_up_x 25), slab (shapeCast S32x256 (View.ld x (Rect.unit ![0, 256 * ((25 : Fin 28).val)] S32x256.size (inb_row 25))) shapeCasts_S32x256_S32x256)⟩,
   ⟨Rect.unit ![((24 : Fin 28).val), 0, 0] S1x32x256.size (inb_up_x 24), slab (shapeCast S32x256 (View.ld x (Rect.unit ![0, 256 * ((24 : Fin 28).val)] S32x256.size (inb_row 24))) shapeCasts_S32x256_S32x256)⟩,
   ⟨Rect.unit ![((23 : Fin 28).val), 0, 0] S1x32x256.size (inb_up_x 23), slab (shapeCast S32x256 (View.ld x (Rect.unit ![0, 256 * ((23 : Fin 28).val)] S32x256.size (inb_row 23))) shapeCasts_S32x256_S32x256)⟩,
   ⟨Rect.unit ![((22 : Fin 28).val), 0, 0] S1x32x256.size (inb_up_x 22), slab (shapeCast S32x256 (View.ld x (Rect.unit ![0, 256 * ((22 : Fin 28).val)] S32x256.size (inb_row 22))) shapeCasts_S32x256_S32x256)⟩,
   ⟨Rect.unit ![((21 : Fin 28).val), 0, 0] S1x32x256.size (inb_up_x 21), slab (shapeCast S32x256 (View.ld x (Rect.unit ![0, 256 * ((21 : Fin 28).val)] S32x256.size (inb_row 21))) shapeCasts_S32x256_S32x256)⟩,
   ⟨Rect.unit ![((20 : Fin 28).val), 0, 0] S1x32x256.size (inb_up_x 20), slab (shapeCast S32x256 (View.ld x (Rect.unit ![0, 256 * ((20 : Fin 28).val)] S32x256.size (inb_row 20))) shapeCasts_S32x256_S32x256)⟩,
   ⟨Rect.unit ![((19 : Fin 28).val), 0, 0] S1x32x256.size (inb_up_x 19), slab (shapeCast S32x256 (View.ld x (Rect.unit ![0, 256 * ((19 : Fin 28).val)] S32x256.size (inb_row 19))) shapeCasts_S32x256_S32x256)⟩,
   ⟨Rect.unit ![((18 : Fin 28).val), 0, 0] S1x32x256.size (inb_up_x 18), slab (shapeCast S32x256 (View.ld x (Rect.unit ![0, 256 * ((18 : Fin 28).val)] S32x256.size (inb_row 18))) shapeCasts_S32x256_S32x256)⟩,
   ⟨Rect.unit ![((17 : Fin 28).val), 0, 0] S1x32x256.size (inb_up_x 17), slab (shapeCast S32x256 (View.ld x (Rect.unit ![0, 256 * ((17 : Fin 28).val)] S32x256.size (inb_row 17))) shapeCasts_S32x256_S32x256)⟩,
   ⟨Rect.unit ![((16 : Fin 28).val), 0, 0] S1x32x256.size (inb_up_x 16), slab (shapeCast S32x256 (View.ld x (Rect.unit ![0, 256 * ((16 : Fin 28).val)] S32x256.size (inb_row 16))) shapeCasts_S32x256_S32x256)⟩,
   ⟨Rect.unit ![((15 : Fin 28).val), 0, 0] S1x32x256.size (inb_up_x 15), slab (shapeCast S32x256 (View.ld x (Rect.unit ![0, 256 * ((15 : Fin 28).val)] S32x256.size (inb_row 15))) shapeCasts_S32x256_S32x256)⟩,
   ⟨Rect.unit ![((14 : Fin 28).val), 0, 0] S1x32x256.size (inb_up_x 14), slab (shapeCast S32x256 (View.ld x (Rect.unit ![0, 256 * ((14 : Fin 28).val)] S32x256.size (inb_row 14))) shapeCasts_S32x256_S32x256)⟩,
   ⟨Rect.unit ![((13 : Fin 28).val), 0, 0] S1x32x256.size (inb_up_x 13), slab (shapeCast S32x256 (View.ld x (Rect.unit ![0, 256 * ((13 : Fin 28).val)] S32x256.size (inb_row 13))) shapeCasts_S32x256_S32x256)⟩,
   ⟨Rect.unit ![((12 : Fin 28).val), 0, 0] S1x32x256.size (inb_up_x 12), slab (shapeCast S32x256 (View.ld x (Rect.unit ![0, 256 * ((12 : Fin 28).val)] S32x256.size (inb_row 12))) shapeCasts_S32x256_S32x256)⟩,
   ⟨Rect.unit ![((11 : Fin 28).val), 0, 0] S1x32x256.size (inb_up_x 11), slab (shapeCast S32x256 (View.ld x (Rect.unit ![0, 256 * ((11 : Fin 28).val)] S32x256.size (inb_row 11))) shapeCasts_S32x256_S32x256)⟩,
   ⟨Rect.unit ![((10 : Fin 28).val), 0, 0] S1x32x256.size (inb_up_x 10), slab (shapeCast S32x256 (View.ld x (Rect.unit ![0, 256 * ((10 : Fin 28).val)] S32x256.size (inb_row 10))) shapeCasts_S32x256_S32x256)⟩,
   ⟨Rect.unit ![((9 : Fin 28).val), 0, 0] S1x32x256.size (inb_up_x 9), slab (shapeCast S32x256 (View.ld x (Rect.unit ![0, 256 * ((9 : Fin 28).val)] S32x256.size (inb_row 9))) shapeCasts_S32x256_S32x256)⟩,
   ⟨Rect.unit ![((8 : Fin 28).val), 0, 0] S1x32x256.size (inb_up_x 8), slab (shapeCast S32x256 (View.ld x (Rect.unit ![0, 256 * ((8 : Fin 28).val)] S32x256.size (inb_row 8))) shapeCasts_S32x256_S32x256)⟩,
   ⟨Rect.unit ![((7 : Fin 28).val), 0, 0] S1x32x256.size (inb_up_x 7), slab (shapeCast S32x256 (View.ld x (Rect.unit ![0, 256 * ((7 : Fin 28).val)] S32x256.size (inb_row 7))) shapeCasts_S32x256_S32x256)⟩,
   ⟨Rect.unit ![((6 : Fin 28).val), 0, 0] S1x32x256.size (inb_up_x 6), slab (shapeCast S32x256 (View.ld x (Rect.unit ![0, 256 * ((6 : Fin 28).val)] S32x256.size (inb_row 6))) shapeCasts_S32x256_S32x256)⟩,
   ⟨Rect.unit ![((5 : Fin 28).val), 0, 0] S1x32x256.size (inb_up_x 5), slab (shapeCast S32x256 (View.ld x (Rect.unit ![0, 256 * ((5 : Fin 28).val)] S32x256.size (inb_row 5))) shapeCasts_S32x256_S32x256)⟩,
   ⟨Rect.unit ![((4 : Fin 28).val), 0, 0] S1x32x256.size (inb_up_x 4), slab (shapeCast S32x256 (View.ld x (Rect.unit ![0, 256 * ((4 : Fin 28).val)] S32x256.size (inb_row 4))) shapeCasts_S32x256_S32x256)⟩,
   ⟨Rect.unit ![((3 : Fin 28).val), 0, 0] S1x32x256.size (inb_up_x 3), slab (shapeCast S32x256 (View.ld x (Rect.unit ![0, 256 * ((3 : Fin 28).val)] S32x256.size (inb_row 3))) shapeCasts_S32x256_S32x256)⟩,
   ⟨Rect.unit ![((2 : Fin 28).val), 0, 0] S1x32x256.size (inb_up_x 2), slab (shapeCast S32x256 (View.ld x (Rect.unit ![0, 256 * ((2 : Fin 28).val)] S32x256.size (inb_row 2))) shapeCasts_S32x256_S32x256)⟩,
   ⟨Rect.unit ![((1 : Fin 28).val), 0, 0] S1x32x256.size (inb_up_x 1), slab (shapeCast S32x256 (View.ld x (Rect.unit ![0, 256 * ((1 : Fin 28).val)] S32x256.size (inb_row 1))) shapeCasts_S32x256_S32x256)⟩,
   ⟨Rect.unit ![((0 : Fin 28).val), 0, 0] S1x32x256.size (inb_up_x 0), slab (shapeCast S32x256 (View.ld x (Rect.unit ![0, 256 * ((0 : Fin 28).val)] S32x256.size (inb_row 0))) shapeCasts_S32x256_S32x256)⟩]

end Cert.KernelIdeal.Gen.Tile

end
-- ==== Proof.Value.Tile.lean ====
/- The kernel's arithmetic over the extended reals, element by element: a tile's product, the layers' sums. -/
module

public import proofs.«01_k».proof.Proof.Value.Spec
public import proofs.«01_k».proof.Proof.Body.Tile

@[expose] public section

set_option maxRecDepth 16384

noncomputable section

namespace Cert.KernelIdeal.Gen.Tile

open Idealize.ShloMosaic Idealize.SL.Sem Cert.Codes Cert.Spec

theorem low_apply (q : Vec Ideal S256x128 .i8) (r : Fin 128) (n : Fin 256) : low (F := Ideal) q (ix2 r n) = lo (q (ix2 n r)) * tiny := by
  refine Eq.trans ?_ (pattern_lo (q (ix2 n r)))
  show Ideal.ofBits .fp8e4m3 _ = _
  refine congrArg _ ?_
  refine (lo_words _ _ _ r n).trans ?_
  refine congrArg (· &&& 15#8) ?_
  pointwise

theorem high_apply (q : Vec Ideal S256x128 .i8) (r : Fin 128) (n : Fin 256) : high (F := Ideal) q (ix2 r n) = hi (q (ix2 n r)) * tiny := by
  refine Eq.trans ?_ (pattern_hi (q (ix2 n r)))
  show Ideal.ofBits .fp8e4m3 _ = _
  refine congrArg _ ?_
  refine (hi_words _ _ _ r n).trans ?_
  refine congrArg (fun x : BitVec 8 => x >>> 4) ?_
  pointwise

theorem piece_apply {o : ℕ} (ho : o + 16 ≤ 128) (h : S128x256.Slices ![o, 0] S16x256) (w : FVec Ideal S128x256 .f32) (s m : Vec Ideal S1x256 .f32)
    (j : Fin 16) (n : Fin 256) :
    piece h w s m (ix2 j n) = w (ix2 (⟨o + j.val, by omega⟩ : Fin 128) n) * s (ix2 (0 : Fin 1) n) + m (ix2 (0 : Fin 1) n) := by
  pointwise [piece]

theorem slices_at : ∀ g : Fin 8, S128x256.Slices ![16 * g.val, 0] S16x256 := by decide

/-- The tile's sixteen pieces, by number. -/
def pieceAt (q : Vec Ideal S256x128 .i8) (s m : Fin 8 → Vec Ideal S1x256 .f32) (k : Fin 16) : FVec Ideal S16x256 .bf16 :=
  if h : k.val < 8 then piece (slices_at ⟨k.val, h⟩) (low q) (s ⟨k.val, h⟩) (m ⟨k.val, h⟩)
  else piece (slices_at ⟨k.val - 8, by omega⟩) (high q) (s ⟨k.val - 8, by omega⟩) (m ⟨k.val - 8, by omega⟩)

theorem tile_eq (q : Vec Ideal S256x128 .i8) (s m : Fin 8 → Vec Ideal S1x256 .f32) (k n : Fin 256) :
    tile q s m (ix2 k n) = pieceAt q s m ⟨k.val / 16, by omega⟩ (ix2 (⟨k.val % 16, by omega⟩ : Fin 16) n) := by
  refine concatenate_ofFn_apply (t := S256x256) (s₁ := S16x256) 0 (pieceAt q s m)
    concatenates_S16x256_S16x256_S16x256_S16x256_S16x256_S16x256_S16x256_S16x256_S16x256_S16x256_S16x256_S16x256_S16x256_S16x256_S16x256_S16x256_S256x256_d0
    rfl 16 rfl (ix2 k n) ⟨k.val / 16, by omega⟩ rfl _ rfl ?_
  intro b hb
  fin_cases b
  · exact absurd rfl hb
  · rfl

theorem tile_low (q : Vec Ideal S256x128 .i8) (s m : Fin 8 → Vec Ideal S1x256 .f32) (r : Fin 128) (n : Fin 256) :
    tile q s m (ix2 (Fin.castAdd 128 r : Fin (128 + 128)) n)
      = lo (q (ix2 n r)) * tiny * s ⟨r.val / 16, by omega⟩ (ix2 (0 : Fin 1) n) + m ⟨r.val / 16, by omega⟩ (ix2 (0 : Fin 1) n) := by
  have hr := r.isLt
  refine (tile_eq q s m _ n).trans ?_
  have h : r.val / 16 < 8 := by omega
  have e : pieceAt q s m ⟨(Fin.castAdd 128 r : Fin (128 + 128)).val / 16, by simp; omega⟩
      = piece (slices_at ⟨r.val / 16, h⟩) (low q) (s ⟨r.val / 16, h⟩) (m ⟨r.val / 16, h⟩) := dif_pos h
  rw [e, piece_apply (by simp; omega), low_apply]
  have : (⟨16 * (r.val / 16) + r.val % 16, by omega⟩ : Fin 128) = r := Fin.ext (by simp; omega)
  simp only [Fin.val_castAdd, this]

theorem tile_high (q : Vec Ideal S256x128 .i8) (s m : Fin 8 → Vec Ideal S1x256 .f32) (r : Fin 128) (n : Fin 256) :
    tile q s m (ix2 (Fin.natAdd 128 r : Fin (128 + 128)) n)
      = hi (q (ix2 n r)) * tiny * s ⟨r.val / 16, by omega⟩ (ix2 (0 : Fin 1) n) + m ⟨r.val / 16, by omega⟩ (ix2 (0 : Fin 1) n) := by
  have hr := r.isLt
  refine (tile_eq q s m _ n).trans ?_
  have h : r.val / 16 < 8 := by omega
  have h1 : (128 + r.val) / 16 = r.val / 16 + 8 := by omega
  have e : pieceAt q s m ⟨(Fin.natAdd 128 r : Fin (128 + 128)).val / 16, by simp; omega⟩
      = piece (slices_at ⟨r.val / 16, h⟩) (high q) (s ⟨r.val / 16, h⟩) (m ⟨r.val / 16, h⟩) := by
    have : (⟨(Fin.natAdd 128 r : Fin (128 + 128)).val / 16, by simp; omega⟩ : Fin 16) = ⟨r.val / 16 + 8, by omega⟩ := Fin.ext h1
    rw [this]
    exact dif_neg (by simp)
  rw [e, piece_apply (by simp; omega), high_apply]
  have : (⟨16 * (r.val / 16) + (128 + r.val) % 16, by omega⟩ : Fin 128) = r := Fin.ext (by simp; omega)
  simp only [Fin.val_natAdd, this]

/-- A tile's product: the low codes' sum and the high codes' sum. -/
theorem prod_apply (h : Vec Ideal S1x32x256 .bf16) (q : Vec Ideal S256x128 .i8) (s m : Fin 8 → Vec Ideal S1x256 .f32) (b : Fin 32) (n : Fin 256) :
    prod h q s m (ix2 b n)
      = (∑ r : Fin 128, h (ix3 (0 : Fin 1) b (⟨r.val, by omega⟩ : Fin 256))
            * (lo (q (ix2 n r)) * tiny * s ⟨r.val / 16, by omega⟩ (ix2 (0 : Fin 1) n) + m ⟨r.val / 16, by omega⟩ (ix2 (0 : Fin 1) n)))
        + ∑ r : Fin 128, h (ix3 (0 : Fin 1) b (⟨128 + r.val, by omega⟩ : Fin 256))
            * (hi (q (ix2 n r)) * tiny * s ⟨r.val / 16, by omega⟩ (ix2 (0 : Fin 1) n) + m ⟨r.val / 16, by omega⟩ (ix2 (0 : Fin 1) n)) := by
  have e : prod h q s m (ix2 b n) = ∑ k : Fin 256, h (ix3 (0 : Fin 1) b k) * tile q s m (ix2 k n) := by
    pointwise [prod]
  refine e.trans ((Fin.sum_univ_add (a := 128) (b := 128) _).trans ?_)
  refine congrArg₂ (· + ·) (Finset.sum_congr rfl fun r _ => ?_) (Finset.sum_congr rfl fun r _ => ?_)
  · exact congrArg₂ (· * ·) rfl (tile_low q s m r n)
  · exact congrArg₂ (· * ·) rfl (tile_high q s m r n)

theorem sum28_apply (p : Fin 28 → FVec Ideal S32x256 .f32) (j : S32x256.Idx) : sum28 p j = ∑ t, p t j := by
  simp only [Fin.sum_univ_castSucc, Fin.sum_univ_zero, zero_add]
  rfl

theorem sum9_apply (p : Fin 9 → FVec Ideal S32x256 .f32) (j : S32x256.Idx) : sum9 p j = ∑ t, p t j := by
  simp only [Fin.sum_univ_castSucc, Fin.sum_univ_zero, zero_add]
  rfl

end Cert.KernelIdeal.Gen.Tile

end
-- ==== Proof.Value.Perm.lean ====
/- The permutation of a block of activations, element by element. -/
module

public import proofs.«01_k».proof.Proof.Value.Tile

@[expose] public section

set_option maxRecDepth 16384

noncomputable section

namespace Cert.KernelIdeal.Gen.Tile

open Idealize.ShloMosaic Idealize.SL.Sem Cert.Codes Cert.Spec

/-- Where column `l` of a permuted block comes from: the low codes' positions first, then the high codes'. -/
def want (l : Fin 256) : Fin 256 := ⟨l.val % 128 / 16 * 32 + (l.val / 128 * 16 + l.val % 16), by omega⟩

/-- The words the rows' numbers are compared with. -/
def wantWord : { W : IVec S256x256 32 // ∀ v : IVec S256x256 32, k0_pay9 v k0_pay5 k0_pay6 16#32 k0_pay7 k0_pay8 = cmpi .eq v W } :=
  ⟨_, fun _ => rfl⟩

theorem wantWord_row (l : Fin 256) : wantWord.1 (ix2 (0 : Fin 256) l) = BitVec.ofNat 32 (want l).val := by
  revert l; decide +kernel

theorem wantWord_apply (k l : Fin 256) : wantWord.1 (ix2 k l) = BitVec.ofNat 32 (want l).val :=
  Eq.trans rfl (wantWord_row l)

theorem perm_apply (k l : Fin 256) : perm (F := Ideal) (ix2 k l) = if k = want l then 1 else 0 := by
  have e : perm (F := Ideal) (ix2 k l) = Scalar.select (IntOp.cmpi .eq (BitVec.ofNat 32 k.val) (wantWord.1 (ix2 k l))) 1 0 := by
    unfold perm
    rw [wantWord.2]
    pointwise [k0_pay11, k0_pay10]
  rw [e, wantWord_apply]
  have hk := k.isLt
  have hl := (want l).isLt
  by_cases h : k = want l
  · subst h
    rw [if_pos rfl]
    show Scalar.select (BitVec.ofBool (_ == _)) _ _ = _
    rw [beq_self_eq_true]; rfl
  · have hne : BitVec.ofNat 32 k.val ≠ BitVec.ofNat 32 (want l).val := by
      intro heq
      have := congrArg BitVec.toNat heq
      rw [BitVec.toNat_ofNat, BitVec.toNat_ofNat, Nat.mod_eq_of_lt (by omega), Nat.mod_eq_of_lt (by omega)] at this
      exact h (Fin.ext this)
    rw [if_neg h]
    show Scalar.select (BitVec.ofBool (_ == _)) _ _ = _
    rw [beq_false_of_ne hne]; rfl

/-- A permuted block. -/
theorem slab_apply (x : FVec Ideal S32x256 .bf16) (b : Fin 32) (l : Fin 256) : slab x (ix3 (0 : Fin 1) b l) = x (ix2 b (want l)) := by
  have e : slab x (ix3 (0 : Fin 1) b l) = ∑ k : Fin 256, x (ix2 b k) * perm (F := Ideal) (ix2 k l) := by
    pointwise [slab]
  rw [e]
  simp only [perm_apply, mul_ite, mul_one, mul_zero, Finset.sum_ite_eq', Finset.mem_univ, if_true]

end Cert.KernelIdeal.Gen.Tile

end
-- ==== Proof.Value.Layer.lean ====
/- A layer over its tiles: the kernel's sums are the problem's linear layers. -/
module

public import proofs.«01_k».proof.Proof.Value.Perm
public import Idealize.ShloMosaic.Lib.Pipeline.ValueKit.Tiles

@[expose] public section

set_option maxRecDepth 16384

noncomputable section

namespace Cert.KernelIdeal.Gen.Tile

open Idealize.ShloMosaic Idealize.SL.Sem Cert.Codes Cert.Spec

/-- A sum over tiles of sums over a tile's rows is the sum over all rows. -/
theorem sum_tiles {T R P : ℕ} (h : P = T * R) (f : Fin P → EReal) :
    (∑ t : Fin T, ∑ r : Fin R, f ⟨R * t.val + r.val, by
      have h1 := t.isLt; have h2 := r.isLt
      calc R * t.val + r.val < R * t.val + R := by omega
        _ = R * (t.val + 1) := by ring
        _ ≤ R * T := Nat.mul_le_mul_left _ h1
        _ = P := by rw [h, Nat.mul_comm]⟩) = ∑ p, f p := by
  subst h
  rw [← finProdFinEquiv.sum_comp, Fintype.sum_prod_type]
  refine Finset.sum_congr rfl fun t _ => Finset.sum_congr rfl fun r _ => congrArg f (Fin.ext ?_)
  simp [finProdFinEquiv, Nat.add_comm]

theorem want_low (r : Fin 128) : (want ⟨r.val, by omega⟩).val = r.val / 16 * 32 + r.val % 16 := by
  have := r.isLt; simp only [want]; omega

theorem want_high (r : Fin 128) : (want ⟨128 + r.val, by omega⟩).val = r.val / 16 * 32 + (16 + r.val % 16) := by
  have := r.isLt; simp only [want]; omega

/-- The tiles' products sum to the linear layer: `h t` the permuted block `t` of the activations, the codes' tile `t`, the
    scales (carrying the code unit's inverse) and the shifts of its eight groups. -/
theorem tiles_apply {T G N : ℕ} (hT : G = 8 * T) (x : Fin 32 → Fin (32 * G) → EReal) (q : Fin N → Fin (16 * G) → BitVec 8)
    (s m : Fin N → Fin G → EReal) (h : Fin T → Vec Ideal S1x32x256 .bf16) (qt : Fin T → Vec Ideal S256x128 .i8)
    (st mt : Fin T → Fin 8 → Vec Ideal S1x256 .f32) (b : Fin 32) (n' : Fin 256) (n : Fin N)
    (hh : ∀ t l, h t (ix3 (0 : Fin 1) b l) = x b ⟨256 * t.val + (want l).val, by have := t.isLt; have := (want l).isLt; omega⟩)
    (hq : ∀ t (r : Fin 128), qt t (ix2 n' r) = q n ⟨128 * t.val + r.val, by have := t.isLt; omega⟩)
    (hs : ∀ t (g : Fin 8), st t g (ix2 (0 : Fin 1) n') = s n ⟨8 * t.val + g.val, by have := t.isLt; omega⟩ * Ideal.ofBits .f32 0x44000000#32)
    (hm : ∀ t (g : Fin 8), mt t g (ix2 (0 : Fin 1) n') = m n ⟨8 * t.val + g.val, by have := t.isLt; omega⟩) :
    ∑ t, prod (h t) (qt t) (st t) (mt t) (ix2 b n') = lin (P := 16 * G) (D := 32 * G) rfl rfl x q s m b n := by
  have hP : 16 * G = T * 128 := by omega
  simp only [prod_apply, Finset.sum_add_distrib]
  unfold lin
  rw [← sum_tiles hP, ← sum_tiles hP]
  refine congrArg₂ (· + ·) (Finset.sum_congr rfl fun t _ => Finset.sum_congr rfl fun r _ => ?_)
    (Finset.sum_congr rfl fun t _ => Finset.sum_congr rfl fun r _ => ?_)
  · rw [hh, hq, hs, hm, unit_cancel]
    have hr := r.isLt
    have hg : (8 * t.val + r.val / 16) = (128 * t.val + r.val) / 16 := by omega
    have hi : 256 * t.val + (want ⟨r.val, by omega⟩).val = (128 * t.val + r.val) / 16 * 32 + (128 * t.val + r.val) % 16 := by
      rw [want_low]; omega
    simp only [grp, ilo, hg, hi]
  · rw [hh, hq, hs, hm, unit_cancel]
    have hr := r.isLt
    have hg : (8 * t.val + r.val / 16) = (128 * t.val + r.val) / 16 := by omega
    have hi : 256 * t.val + (want ⟨128 + r.val, by omega⟩).val = (128 * t.val + r.val) / 16 * 32 + (16 + (128 * t.val + r.val) % 16) := by
      rw [want_high]; omega
    simp only [grp, ihi, hg, hi]

section Reads

variable {α : Type}

/-- A load of a rectangle at an index. -/
theorem ld_at {S : Shape} {e : EltTy} {off size : Fin S.rank → ℕ} (X : Vec Ideal S e) (inb : ∀ a, off a + size a ≤ S.size a)
    (i : (Rect.unit off size inb).shape.Idx) (j : S.Idx) (h : ∀ a, (j a).val = off a + (i a).val) :
    View.ld (Val := Elt Ideal) X (Rect.unit off size inb) i = X j := by
  exact View.ld_unit_apply_of X off size inb i j h

end Reads

/-- The permuted activations: what the first point's scratch holds. -/
def Permuted {T D : ℕ} (hD : D = 256 * T) (x : Fin 32 → Fin D → EReal) (v : (⟨3, ![T, 32, 256]⟩ : Shape).Idx → EReal) : Prop :=
  ∀ (t : Fin T) (b : Fin 32) (l : Fin 256),
    v (ix3 t b l) = x b ⟨256 * t.val + (want l).val, by have := t.isLt; have := (want l).isLt; omega⟩

/-- The first layers, over their twenty-eight tiles. -/
theorem up_apply (x : Fin 32 → Fin 7168 → EReal) (q : Vec Ideal S256x3584 .i8) (s m : Fin 256 → Fin 224 → EReal)
    (xc : Vec Ideal S28x32x256 .bf16) (st mt : Vec Ideal S224x256 .f32) (hx : Permuted (T := 28) rfl x xc)
    (hs : ∀ g n, st (ix2 g n) = s n g * Ideal.ofBits .f32 0x44000000#32) (hm : ∀ g n, mt (ix2 g n) = m n g) (b : Fin 32) (n : Fin 256) :
    up xc q st mt (ix2 b n) = lin (P := 3584) (G := 224) (D := 7168) rfl rfl x (at2 q) s m b n := by
  unfold up
  rw [sum28_apply]
  refine tiles_apply (T := 28) (G := 224) rfl x (at2 q) s m _ _ _ _ b n n ?_ ?_ ?_ ?_
  · intro t l
    refine (ld_at xc _ _ (ix3 t b l) ?_).trans (hx t b l)
    intro a; fin_cases a <;> simp [ix3]
  · intro t r
    refine ld_at q _ _ (ix2 n (⟨128 * t.val + r.val, by omega⟩ : Fin 3584)) ?_
    intro a; fin_cases a <;> simp [ix2]
  · intro t g
    refine (ld_at st _ _ (ix2 (⟨8 * t.val + g.val, by omega⟩ : Fin 224) n) ?_).trans (hs _ n)
    intro a; fin_cases a <;> simp [ix2]
  · intro t g
    refine (ld_at mt _ _ (ix2 (⟨8 * t.val + g.val, by omega⟩ : Fin 224) n) ?_).trans (hm _ n)
    intro a; fin_cases a <;> simp [ix2]

/-- The last layer, over its nine tiles. -/
theorem column_apply (x : Fin 32 → Fin 2304 → EReal) (q : Vec Ideal S1024x1152 .i8) (s m : Fin 1024 → Fin 72 → EReal)
    (hc : Vec Ideal S9x32x256 .bf16) (st mt : Vec Ideal S72x1024 .f32) (hx : Permuted (T := 9) rfl x hc)
    (hs : ∀ g n, st (ix2 g n) = s n g * Ideal.ofBits .f32 0x44000000#32) (hm : ∀ g n, mt (ix2 g n) = m n g) (c : Fin 4) (b : Fin 32) (n : Fin 256) :
    column c hc q st mt (ix2 b n)
      = lin (P := 1152) (G := 72) (D := 2304) rfl rfl x (at2 q) s m b ⟨256 * c.val + n.val, by omega⟩ := by
  have e : column c hc q st mt (ix2 b n) = down c hc q st mt (ix2 b n) := by
    pointwise [column]
  rw [e]
  unfold down
  rw [sum9_apply]
  refine tiles_apply (T := 9) (G := 72) rfl x (at2 q) s m _ _ _ _ b n _ ?_ ?_ ?_ ?_
  · intro t l
    refine (ld_at hc _ _ (ix3 t b l) ?_).trans (hx t b l)
    intro a; fin_cases a <;> simp [ix3]
  · intro t r
    refine ld_at q _ _ (ix2 (⟨256 * c.val + n.val, by omega⟩ : Fin 1024) (⟨128 * t.val + r.val, by omega⟩ : Fin 1152)) ?_
    intro a; fin_cases a <;> simp [ix2]
  · intro t g
    refine (ld_at st _ _ (ix2 (⟨8 * t.val + g.val, by omega⟩ : Fin 72) (⟨256 * c.val + n.val, by omega⟩ : Fin 1024)) ?_).trans (hs _ _)
    intro a; fin_cases a <;> simp [ix2]
  · intro t g
    refine (ld_at mt _ _ (ix2 (⟨8 * t.val + g.val, by omega⟩ : Fin 72) (⟨256 * c.val + n.val, by omega⟩ : Fin 1024)) ?_).trans (hm _ _)
    intro a; fin_cases a <;> simp [ix2]

/-- The hidden block. -/
theorem hidden_apply (g u : FVec Ideal S32x256 .f32) (b : Fin 32) (n : Fin 256) : hidden g u (ix2 b n) = act (g (ix2 b n)) (u (ix2 b n)) := by
  pointwise [hidden]
  rfl

end Cert.KernelIdeal.Gen.Tile

end
-- ==== Proof.Value.Steps.lean ====
/- What the body stores at each kind of point, as values: the permuted activations, one permuted block of the hidden layer, one
   block of the output. -/
module

public import proofs.«01_k».proof.Proof.Value.Blocks
public import proofs.«01_k».proof.Proof.Value.Layer
public import Idealize.ShloMosaic.Lib.WritesUnit

@[expose] public section

set_option maxRecDepth 16384

noncomputable section

namespace Cert.KernelIdeal.Gen

open Idealize.ShloMosaic Idealize.ShloMosaic.TcCoe Idealize.SL.Sem Cert.Spec Tile

/-! ## Scales and shifts -/

/-- A store of a whole buffer leaves its payload. -/
theorem read_whole {S : Shape} {e : EltTy} {sg : RefSig} {κ : Kind} {sp : Space} (v : View sg κ sp S e) (f : v.ty.Contents (Elt Ideal))
    {off : Fin S.rank → ℕ} (h : off = fun _ => 0) (inb : ∀ a, off a + S.size a ≤ S.size a) (w : Vec Ideal S e) :
    v.read (Elt Ideal) (v.writes (Elt Ideal) f [⟨Rect.unit off S.size inb, w⟩]) = w := by
  subst h
  funext y
  exact View.read_writes_cons_unit_of_mem v f inb w [] y y rfl fun a => (Nat.zero_add _).symm

theorem zero2 : (![0, 0] : Fin 2 → ℕ) = fun _ => 0 := by funext a; fin_cases a <;> rfl

/-- A load of a whole buffer reads it. -/
theorem ld_whole2 {S : Shape} {e : EltTy} {off : Fin S.rank → ℕ} (h : off = fun _ => 0) (inb : ∀ a, off a + S.size a ≤ S.size a) (X : Vec Ideal S e) :
    View.ld (Val := Elt Ideal) X (Rect.unit off S.size inb) = X := View.ld_unit_zero h inb X

theorem pay40_apply (v : Vec Ideal S224x256 .f16) (g : Fin 224) (n : Fin 256) :
    k0_pay40 v (ix2 g n) = v (ix2 g n) * Ideal.ofBits .f32 0x44000000#32 := by
  pointwise [k0_pay40]
theorem pay42_apply (v : Vec Ideal S224x256 .f16) (g : Fin 224) (n : Fin 256) :
    k0_pay42 v (ix2 g n) = v (ix2 g n) * Ideal.ofBits .f32 0x44000000#32 := by
  pointwise [k0_pay42]
theorem pay1073_apply (v : Vec Ideal S72x1024 .f16) (g : Fin 72) (n : Fin 1024) :
    k0_pay1073 v (ix2 g n) = v (ix2 g n) * Ideal.ofBits .f32 0x44000000#32 := by
  pointwise [k0_pay1073]
theorem pay41_apply (v : Vec Ideal S224x256 .f16) (g : Fin 224) (n : Fin 256) : k0_pay41 v (ix2 g n) = v (ix2 g n) := by
  pointwise [k0_pay41]
theorem pay43_apply (v : Vec Ideal S224x256 .f16) (g : Fin 224) (n : Fin 256) : k0_pay43 v (ix2 g n) = v (ix2 g n) := by
  pointwise [k0_pay43]
theorem pay1074_apply (v : Vec Ideal S72x1024 .f16) (g : Fin 72) (n : Fin 1024) : k0_pay1074 v (ix2 g n) = v (ix2 g n) := by
  pointwise [k0_pay1074]

/-! ## The permuted activations -/

/-- The block of the activations that slab `t` holds, permuted. -/
def slabPiece (x : Vec Ideal S32x7168 .bf16) (t : Fin 28) : View.Piece (Elt Ideal) S28x32x256 .bf16 :=
  ⟨Rect.unit ![t.val, 0, 0] S1x32x256.size (inb_up_x t),
    slab (F := Ideal) (shapeCast S32x256 (View.ld x (Rect.unit ![0, 256 * t.val] S32x256.size (inb_row t))) shapeCasts_S32x256_S32x256)⟩

theorem mem_all28 : ∀ t : Fin 28, t ∈ ([27, 26, 25, 24, 23, 22, 21, 20, 19, 18, 17, 16, 15, 14, 13, 12, 11, 10, 9, 8, 7, 6, 5, 4, 3, 2, 1, 0] : List (Fin 28)) := by decide

theorem slabs_eq (x : Vec Ideal S32x7168 .bf16) :
    slabs x = ([27, 26, 25, 24, 23, 22, 21, 20, 19, 18, 17, 16, 15, 14, 13, 12, 11, 10, 9, 8, 7, 6, 5, 4, 3, 2, 1, 0] : List (Fin 28)).map (slabPiece x) := rfl

theorem slab_row (x : Vec Ideal S32x7168 .bf16) (t : Fin 28) (b : Fin 32) (l : Fin 256) :
    slab (F := Ideal) (shapeCast S32x256 (View.ld x (Rect.unit ![0, 256 * t.val] S32x256.size (inb_row t))) shapeCasts_S32x256_S32x256) (ix3 (0 : Fin 1) b l)
      = at2 x b ⟨256 * t.val + (want l).val, by have := t.isLt; have := (want l).isLt; omega⟩ := by
  refine (slab_apply _ b l).trans ((congrFun (shapeCast_self (s := S32x256) (View.ld x (Rect.unit ![0, 256 * t.val] S32x256.size (inb_row t))) shapeCasts_S32x256_S32x256) _).trans ?_)
  refine ld_at x _ _ (ix2 b _) ?_
  intro a; fin_cases a
  · exact (Nat.zero_add _).symm
  · rfl

/-- The activations as the slabs hold them. -/
def slabVal (x : Vec Ideal S32x7168 .bf16) : Vec Ideal S28x32x256 .bf16 := fun i =>
  at2 x (i 1) ⟨256 * (i 0).val + (want (i 2)).val, by have : (i 0).val < 28 := (i 0).isLt; have := (want (i 2)).isLt; omega⟩

theorem slabPiece_apply (x : Vec Ideal S32x7168 .bf16) (t : Fin 28) (z : S1x32x256.Idx) :
    (slabPiece x t).2 z = slabVal x ((slabPiece x t).1.emb z) := by
  have h0 : (z 0).val < 1 := (z 0).isLt
  have hz : z = ix3 (0 : Fin 1) (z 1) (z 2) := by
    funext a; fin_cases a
    · exact Fin.ext (Nat.lt_one_iff.mp h0)
    · rfl
    · rfl
  rw [hz]
  refine (slab_row x t (z 1) (z 2)).trans ?_
  have e0 : ((slabPiece x t).1.emb (ix3 (0 : Fin 1) (z 1) (z 2)) 0).val = t.val := by
    show t.val + 1 * 0 = t.val
    omega
  have e1 : ((slabPiece x t).1.emb (ix3 (0 : Fin 1) (z 1) (z 2)) 1) = z 1 := Fin.ext (by
    show 0 + 1 * (z 1).val = (z 1).val
    omega)
  have e2 : ((slabPiece x t).1.emb (ix3 (0 : Fin 1) (z 1) (z 2)) 2) = z 2 := Fin.ext (by
    show 0 + 1 * (z 2).val = (z 2).val
    omega)
  unfold slabVal
  refine congrArg₂ (at2 x) e1.symm (Fin.ext ?_)
  show 256 * t.val + (want (z 2)).val = 256 * ((slabPiece x t).1.emb (ix3 (0 : Fin 1) (z 1) (z 2)) 0).val + (want ((slabPiece x t).1.emb (ix3 (0 : Fin 1) (z 1) (z 2)) 2)).val
  rw [e0, e2]

theorem slabs_permuted {sg : RefSig} {κ : Kind} {sp : Space} (v : View sg κ sp S28x32x256 .bf16) (f : v.ty.Contents (Elt Ideal))
    (x : Vec Ideal S32x7168 .bf16) :
    Permuted (T := 28) rfl (at2 x) (v.read (Elt Ideal) (v.writes (Elt Ideal) f (slabs x))) := by
  intro t b l
  rw [slabs_eq]
  refine View.read_writes_apply_of_pieces v f (slabVal x) _ ?_ (ix3 t b l) ?_
  · intro p hp z
    obtain ⟨t', -, rfl⟩ := List.mem_map.mp hp
    exact slabPiece_apply x t' z
  · refine ⟨slabPiece x t, List.mem_map.mpr ⟨t, mem_all28 t, rfl⟩, ?_⟩
    refine (Rect.mem_set_unit (inb := inb_up_x t)).mpr ?_
    have hb := b.isLt
    have hl := l.isLt
    intro a; fin_cases a
    · exact ⟨le_refl t.val, Nat.lt_succ_self t.val⟩
    · exact ⟨Nat.zero_le _, (show b.val < 0 + 32 by omega)⟩
    · exact ⟨Nat.zero_le _, (show l.val < 0 + 256 by omega)⟩

/-! ## The hidden layer's block -/

variable (m : (ℓ : Loc nD τ sig) → Buf (Elt Ideal) ℓ)

theorem hidden_rows (c : Dev nD) (t : Fin cfg0.N) (ht : t.val < 9) (xc : Vec Ideal S28x32x256 .bf16)
    (hx : Permuted (T := 28) rfl (at2 (argX m c)) xc) (b : Fin 32) (n : Fin 256) :
    hidden (up xc (iblk m c 1 t) (k0_pay40 (iblk m c 2 t)) (k0_pay41 (iblk m c 3 t)))
      (up xc (iblk m c 4 t) (k0_pay42 (iblk m c 5 t)) (k0_pay43 (iblk m c 6 t))) (ix2 b n)
      = hidOf m c b ⟨256 * t.val + n.val, by have := n.isLt; omega⟩ := by
  have hN := n.isLt
  rw [hidden_apply]
  unfold hidOf hid
  refine congrArg₂ act ?_ ?_
  · refine (up_apply (at2 (argX m c)) (iblk m c 1 t) (fun n g => argGs m c (ix2 ⟨256 * t.val + n.val, by have := n.isLt; omega⟩ g))
      (fun n g => argGm m c (ix2 ⟨256 * t.val + n.val, by have := n.isLt; omega⟩ g)) xc _ _ hx ?_ ?_ b n).trans ?_
    · intro g n
      exact (pay40_apply _ g n).trans (congrArg (· * _) (iblk2_apply m c t ht g n))
    · intro g n
      exact (pay41_apply _ g n).trans (iblk3_apply m c t ht g n)
    · rw [show at2 (iblk m c 1 t : Vec Ideal S256x3584 .i8) = fun n p => argGq m c (ix2 ⟨256 * t.val + n.val, by have := n.isLt; omega⟩ p) from
        funext fun n => funext fun p => iblk1_apply m c t ht n p]
      rfl
  · refine (up_apply (at2 (argX m c)) (iblk m c 4 t) (fun n g => argUs m c (ix2 ⟨256 * t.val + n.val, by have := n.isLt; omega⟩ g))
      (fun n g => argUm m c (ix2 ⟨256 * t.val + n.val, by have := n.isLt; omega⟩ g)) xc _ _ hx ?_ ?_ b n).trans ?_
    · intro g n
      exact (pay42_apply _ g n).trans (congrArg (· * _) (iblk5_apply m c t ht g n))
    · intro g n
      exact (pay43_apply _ g n).trans (iblk6_apply m c t ht g n)
    · rw [show at2 (iblk m c 4 t : Vec Ideal S256x3584 .i8) = fun n p => argUq m c (ix2 ⟨256 * t.val + n.val, by have := n.isLt; omega⟩ p) from
        funext fun n => funext fun p => iblk4_apply m c t ht n p]
      rfl

/-- The first `k` blocks of the hidden layer are in its scratch, permuted. -/
def HidUpTo (c : Dev nD) (k : ℕ) (v : Vec Ideal S9x32x256 .bf16) : Prop :=
  ∀ (j : Fin 9) (b : Fin 32) (l : Fin 256), j.val < k →
    v (ix3 j b l) = hidOf m c b ⟨256 * j.val + (want l).val, by have := j.isLt; have := (want l).isLt; omega⟩

/-- A point of the first nine adds its block. -/
theorem hid_step {sg : RefSig} {κ : Kind} {sp : Space} (v : View sg κ sp S9x32x256 .bf16) (f : v.ty.Contents (Elt Ideal))
    (c : Dev nD) (t : ℕ) (ht : t < 9) {off : Fin 3 → ℕ} (hoff : off = ![t, 0, 0]) (inb : ∀ a, off a + S1x32x256.size a ≤ S9x32x256.size a)
    (h : FVec Ideal S32x256 .bf16) (hh : ∀ b n, h (ix2 b n) = hidOf m c b ⟨256 * t + n.val, by have := n.isLt; omega⟩)
    (hf : HidUpTo m c t (v.read (Elt Ideal) f)) :
    HidUpTo m c (t + 1) (v.read (Elt Ideal) (v.writes (Elt Ideal) f [⟨Rect.unit off S1x32x256.size inb, slab h⟩])) := by
  intro j b l hj
  by_cases e : j.val = t
  · refine (View.read_writes_cons_unit_of_mem v f inb (slab h) [] (ix3 j b l) (ix3 (0 : Fin 1) b l) hoff ?_).trans ?_
    · intro a; fin_cases a
      · exact e
      · exact (Nat.zero_add _).symm
      · exact (Nat.zero_add _).symm
    · refine (slab_apply h b l).trans ((hh b (want l)).trans ?_)
      refine congrArg (hidOf m c b) (Fin.ext ?_)
      show 256 * t + _ = 256 * j.val + _
      rw [e]
  · refine (View.read_writes_cons_unit_of_not_mem v f inb (slab h) [] (ix3 j b l) hoff (0 : Fin 3) ?_).trans ?_
    · left; show j.val < t; omega
    · exact hf j b l (by omega)

/-! ## The output's block -/

/-- What a point of the last seven leaves in its output block. -/
def outOf (c : Dev nD) (t : Fin cfg0.N) (ht : 9 ≤ t.val) : Vec Ideal S32x1024 .bf16 := fun i =>
  mlpOf m c (i 0) ⟨1024 * (t.val - 9) + (i 1).val, by
    have : (i 1).val < 1024 := (i 1).isLt; have := lt_of_lt_of_eq t.isLt (show cfg0.N = 16 from N_0); omega⟩

theorem column_cols (c : Dev nD) (t : Fin cfg0.N) (ht : 9 ≤ t.val) (hc : Vec Ideal S9x32x256 .bf16) (hx : HidUpTo m c 9 hc)
    (k : Fin 4) (b : Fin 32) (n : Fin 256) :
    column k hc (iblk m c 7 t) (k0_pay1073 (iblk m c 8 t)) (k0_pay1074 (iblk m c 9 t)) (ix2 b n)
      = mlpOf m c b ⟨1024 * (t.val - 9) + (256 * k.val + n.val), by
          have := n.isLt; have := k.isLt; have := lt_of_lt_of_eq t.isLt (show cfg0.N = 16 from N_0); omega⟩ := by
  have hN := n.isLt
  have hT := lt_of_lt_of_eq t.isLt (show cfg0.N = 16 from N_0)
  refine (column_apply (hidOf m c) (iblk m c 7 t) (fun n g => argDs m c (ix2 ⟨1024 * (t.val - 9) + n.val, by have := n.isLt; omega⟩ g))
      (fun n g => argDm m c (ix2 ⟨1024 * (t.val - 9) + n.val, by have := n.isLt; omega⟩ g)) hc _ _ (fun j b l => hx j b l j.isLt) ?_ ?_ k b n).trans ?_
  · intro g n
    exact (pay1073_apply _ g n).trans (congrArg (· * _) (iblk8_apply m c t ht g n))
  · intro g n
    exact (pay1074_apply _ g n).trans (iblk9_apply m c t ht g n)
  · rw [show at2 (iblk m c 7 t : Vec Ideal S1024x1152 .i8) = fun n p => argDq m c (ix2 ⟨1024 * (t.val - 9) + n.val, by have := n.isLt; omega⟩ p) from
        funext fun n => funext fun p => iblk7_apply m c t ht n p]
    rfl

/-- Column block `k` as a piece. -/
def colPiece (x : Vec Ideal S9x32x256 .bf16) (q : Vec Ideal S1024x1152 .i8) (s d : Vec Ideal S72x1024 .f32) (k : Fin 4) :
    View.Piece (Elt Ideal) S32x1024 .bf16 :=
  ⟨Rect.unit ![0, 256 * k.val] S32x256.size (inb_out k), column k x q s d⟩

theorem mem_all4 : ∀ k : Fin 4, k ∈ ([3, 2, 1, 0] : List (Fin 4)) := by decide

theorem columns_eq (x : Vec Ideal S9x32x256 .bf16) (q : Vec Ideal S1024x1152 .i8) (s d : Vec Ideal S72x1024 .f32) :
    columns x q s d = ([3, 2, 1, 0] : List (Fin 4)).map (colPiece x q s d) := rfl

theorem colPiece_apply (c : Dev nD) (t : Fin cfg0.N) (ht : 9 ≤ t.val) (hc : Vec Ideal S9x32x256 .bf16) (hx : HidUpTo m c 9 hc)
    (k : Fin 4) (z : S32x256.Idx) :
    (colPiece hc (iblk m c 7 t) (k0_pay1073 (iblk m c 8 t)) (k0_pay1074 (iblk m c 9 t)) k).2 z
      = outOf m c t ht ((colPiece hc (iblk m c 7 t) (k0_pay1073 (iblk m c 8 t)) (k0_pay1074 (iblk m c 9 t)) k).1.emb z) := by
  refine (congrArg (column k hc (iblk m c 7 t) (k0_pay1073 (iblk m c 8 t)) (k0_pay1074 (iblk m c 9 t))) (ValueIdx.eq_ix2 z)).trans ?_
  refine (column_cols m c t ht hc hx k (z 0) (z 1)).trans ?_
  unfold outOf
  refine congrArg₂ (mlpOf m c) (Fin.ext ?_) (Fin.ext ?_)
  · show (z 0).val = 0 + 1 * (z 0).val
    omega
  · show 1024 * (t.val - 9) + (256 * k.val + (z 1).val) = 1024 * (t.val - 9) + (256 * k.val + 1 * (z 1).val)
    omega

theorem columns_out {sg : RefSig} {κ : Kind} {sp : Space} (v : View sg κ sp S32x1024 .bf16) (f : v.ty.Contents (Elt Ideal))
    (c : Dev nD) (t : Fin cfg0.N) (ht : 9 ≤ t.val) (hc : Vec Ideal S9x32x256 .bf16) (hx : HidUpTo m c 9 hc) :
    v.read (Elt Ideal) (v.writes (Elt Ideal) f (columns hc (iblk m c 7 t) (k0_pay1073 (iblk m c 8 t)) (k0_pay1074 (iblk m c 9 t))))
      = outOf m c t ht := by
  funext i
  rw [columns_eq]
  refine View.read_writes_apply_of_pieces v f (outOf m c t ht) _ ?_ i ?_
  · intro p hp z
    obtain ⟨k, -, rfl⟩ := List.mem_map.mp hp
    exact colPiece_apply m c t ht hc hx k z
  · have h0 : (i 0).val < 32 := (i 0).isLt
    have h1 : (i 1).val < 1024 := (i 1).isLt
    let k : Fin 4 := ⟨(i 1).val / 256, by omega⟩
    refine ⟨colPiece hc _ _ _ k, List.mem_map.mpr ⟨k, mem_all4 k, rfl⟩, ?_⟩
    refine (Rect.mem_set_unit (inb := inb_out k)).mpr ?_
    intro a; fin_cases a
    · exact ⟨Nat.zero_le _, (show (i 0).val < 0 + 32 by omega)⟩
    · exact ⟨(show 256 * ((i 1).val / 256) ≤ (i 1).val by omega), (show (i 1).val < 256 * ((i 1).val / 256) + 256 by omega)⟩

end Cert.KernelIdeal.Gen

end
-- ==== Proof.Body.RunA.lean ====
/- The run of the kernel's body at the first point: what it stores, found by executing the body. -/
module

public import proofs.«01_k».proof.Proof.Body.Basic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The first point: on whole buffers the body runs to a state that has the inputs and the output buffer as they were, the
    permuted activations' scratch with the pieces `LS0` written and the hidden layer's with the pieces `LS1`. -/
noncomputable def runA (c : Dev nD) (i : grid0.Coords) (arg1 : Memref sig .tc .vmem S32x7168 .bf16) (harg1 : arg1.IsWhole) (arg2 : Memref sig .tc .vmem S256x3584 .i8) (harg2 : arg2.IsWhole) (arg3 : Memref sig .tc .vmem S224x256 .f16) (harg3 : arg3.IsWhole) (arg4 : Memref sig .tc .vmem S224x256 .f16) (harg4 : arg4.IsWhole) (arg5 : Memref sig .tc .vmem S256x3584 .i8) (harg5 : arg5.IsWhole) (arg6 : Memref sig .tc .vmem S224x256 .f16) (harg6 : arg6.IsWhole) (arg7 : Memref sig .tc .vmem S224x256 .f16) (harg7 : arg7.IsWhole) (arg8 : Memref sig .tc .vmem S1024x1152 .i8) (harg8 : arg8.IsWhole) (arg9 : Memref sig .tc .vmem S72x1024 .f16) (harg9 : arg9.IsWhole) (arg10 : Memref sig .tc .vmem S72x1024 .f16) (harg10 : arg10.IsWhole) (arg11 : Memref sig .tc .vmem S32x1024 .bf16) (harg11 : arg11.IsWhole) (arg12 : Memref sig .tc .vmem S28x32x256 .bf16) (harg12 : arg12.IsWhole) (arg13 : Memref sig .tc .vmem S9x32x256 .bf16) (harg13 : arg13.IsWhole) (arg14 : Memref sig .tc .vmem S224x256 .f32) (harg14 : arg14.IsWhole) (arg15 : Memref sig .tc .vmem S224x256 .f32) (harg15 : arg15.IsWhole) (arg16 : Memref sig .tc .vmem S224x256 .f32) (harg16 : arg16.IsWhole) (arg17 : Memref sig .tc .vmem S224x256 .f32) (harg17 : arg17.IsWhole) (arg18 : Memref sig .tc .vmem S72x1024 .f32) (harg18 : arg18.IsWhole) (arg19 : Memref sig .tc .vmem S72x1024 .f32) (harg19 : arg19.IsWhole) (hc0 : cond0_0 i) (hc1 : cond0_1 i) (hc2 : ¬cond0_2 i)
    (x0 : Vec F S32x7168 .bf16) (x1 : Vec F S256x3584 .i8) (x2 : Vec F S224x256 .f16) (x3 : Vec F S224x256 .f16) (x4 : Vec F S256x3584 .i8) (x5 : Vec F S224x256 .f16) (x6 : Vec F S224x256 .f16) (x7 : Vec F S1024x1152 .i8) (x8 : Vec F S72x1024 .f16) (x9 : Vec F S72x1024 .f16) :
    { LS : List (View.Piece (Elt F) S28x32x256 .bf16) × List (View.Piece (Elt F) S9x32x256 .bf16) //
      ∀ (y : Vec F S32x1024 .bf16) (xs1 : Vec F S9x32x256 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y ∗ (∃ d, owns (c : Thread nD τ) arg12 fullShare d) ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y ∗ (∃ f, arg12.view.loc (c : Thread nD τ) ↦[arg12.view.set]{fullShare} arg12.view.writes (Elt F) f LS.1) ∗ (arg13.view.loc (c : Thread nD τ) ↦[arg13.view.set]{fullShare} arg13.view.writes (Elt F) (harg13.unread xs1) LS.2) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_q4_swiglu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨(?_, ?_), fun y xs1 E K => ?run⟩
  case run =>
    simp only [cc0_q4_swiglu_eq_skeleton]; unfold cc0_q4_swiglu_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part171_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part172_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part173_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hfs1; obtain rfl := harg11.eq_unread hf10
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    isplitl [HS1]; · iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.KernelIdeal.Gen

end
-- ==== Proof.Body.RunB.lean ====
/- The run of the kernel's body at points 1 to 8: what it stores, found by executing the body. -/
module

public import proofs.«01_k».proof.Proof.Body.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- Points 1 to 8: the body leaves the permuted activations, and writes the pieces `LS1` over the hidden layer's scratch. -/
noncomputable def runB (c : Dev nD) (i : grid0.Coords) (arg1 : Memref sig .tc .vmem S32x7168 .bf16) (harg1 : arg1.IsWhole) (arg2 : Memref sig .tc .vmem S256x3584 .i8) (harg2 : arg2.IsWhole) (arg3 : Memref sig .tc .vmem S224x256 .f16) (harg3 : arg3.IsWhole) (arg4 : Memref sig .tc .vmem S224x256 .f16) (harg4 : arg4.IsWhole) (arg5 : Memref sig .tc .vmem S256x3584 .i8) (harg5 : arg5.IsWhole) (arg6 : Memref sig .tc .vmem S224x256 .f16) (harg6 : arg6.IsWhole) (arg7 : Memref sig .tc .vmem S224x256 .f16) (harg7 : arg7.IsWhole) (arg8 : Memref sig .tc .vmem S1024x1152 .i8) (harg8 : arg8.IsWhole) (arg9 : Memref sig .tc .vmem S72x1024 .f16) (harg9 : arg9.IsWhole) (arg10 : Memref sig .tc .vmem S72x1024 .f16) (harg10 : arg10.IsWhole) (arg11 : Memref sig .tc .vmem S32x1024 .bf16) (harg11 : arg11.IsWhole) (arg12 : Memref sig .tc .vmem S28x32x256 .bf16) (harg12 : arg12.IsWhole) (arg13 : Memref sig .tc .vmem S9x32x256 .bf16) (harg13 : arg13.IsWhole) (arg14 : Memref sig .tc .vmem S224x256 .f32) (harg14 : arg14.IsWhole) (arg15 : Memref sig .tc .vmem S224x256 .f32) (harg15 : arg15.IsWhole) (arg16 : Memref sig .tc .vmem S224x256 .f32) (harg16 : arg16.IsWhole) (arg17 : Memref sig .tc .vmem S224x256 .f32) (harg17 : arg17.IsWhole) (arg18 : Memref sig .tc .vmem S72x1024 .f32) (harg18 : arg18.IsWhole) (arg19 : Memref sig .tc .vmem S72x1024 .f32) (harg19 : arg19.IsWhole) (hc0 : ¬cond0_0 i) (hc1 : cond0_1 i) (hc2 : ¬cond0_2 i)
    (x0 : Vec F S32x7168 .bf16) (x1 : Vec F S256x3584 .i8) (x2 : Vec F S224x256 .f16) (x3 : Vec F S224x256 .f16) (x4 : Vec F S256x3584 .i8) (x5 : Vec F S224x256 .f16) (x6 : Vec F S224x256 .f16) (x7 : Vec F S1024x1152 .i8) (x8 : Vec F S72x1024 .f16) (x9 : Vec F S72x1024 .f16) (xs0 : Vec F S28x32x256 .bf16) :
    { LS1 : List (View.Piece (Elt F) S9x32x256 .bf16) //
      ∀ (y : Vec F S32x1024 .bf16) (xs1 : Vec F S9x32x256 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y ∗ owns (c : Thread nD τ) arg12 fullShare xs0 ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y ∗ owns (c : Thread nD τ) arg12 fullShare xs0 ∗ (arg13.view.loc (c : Thread nD τ) ↦[arg13.view.set]{fullShare} arg13.view.writes (Elt F) (harg13.unread xs1) LS1) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_q4_swiglu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun y xs1 E K => ?run⟩
  case run =>
    simp only [cc0_q4_swiglu_eq_skeleton]; unfold cc0_q4_swiglu_skel
    simp only [k0_part171_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part172_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part173_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs0; obtain rfl := harg13.eq_unread hfs1; obtain rfl := harg11.eq_unread hf10
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]
    · iexists _; isplitr; · ipureintro; exact harg12.read_unread _
      iexact HS0
    isplitl [HS1]; · iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.KernelIdeal.Gen

end
-- ==== Proof.Body.RunC.lean ====
/- The run of the kernel's body at points 9 to 15: what it stores, found by executing the body. -/
module

public import proofs.«01_k».proof.Proof.Body.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- Points 9 to 15: the body leaves both carried scratch buffers, and writes the pieces `LO` over the output buffer. -/
noncomputable def runC (c : Dev nD) (i : grid0.Coords) (arg1 : Memref sig .tc .vmem S32x7168 .bf16) (harg1 : arg1.IsWhole) (arg2 : Memref sig .tc .vmem S256x3584 .i8) (harg2 : arg2.IsWhole) (arg3 : Memref sig .tc .vmem S224x256 .f16) (harg3 : arg3.IsWhole) (arg4 : Memref sig .tc .vmem S224x256 .f16) (harg4 : arg4.IsWhole) (arg5 : Memref sig .tc .vmem S256x3584 .i8) (harg5 : arg5.IsWhole) (arg6 : Memref sig .tc .vmem S224x256 .f16) (harg6 : arg6.IsWhole) (arg7 : Memref sig .tc .vmem S224x256 .f16) (harg7 : arg7.IsWhole) (arg8 : Memref sig .tc .vmem S1024x1152 .i8) (harg8 : arg8.IsWhole) (arg9 : Memref sig .tc .vmem S72x1024 .f16) (harg9 : arg9.IsWhole) (arg10 : Memref sig .tc .vmem S72x1024 .f16) (harg10 : arg10.IsWhole) (arg11 : Memref sig .tc .vmem S32x1024 .bf16) (harg11 : arg11.IsWhole) (arg12 : Memref sig .tc .vmem S28x32x256 .bf16) (harg12 : arg12.IsWhole) (arg13 : Memref sig .tc .vmem S9x32x256 .bf16) (harg13 : arg13.IsWhole) (arg14 : Memref sig .tc .vmem S224x256 .f32) (harg14 : arg14.IsWhole) (arg15 : Memref sig .tc .vmem S224x256 .f32) (harg15 : arg15.IsWhole) (arg16 : Memref sig .tc .vmem S224x256 .f32) (harg16 : arg16.IsWhole) (arg17 : Memref sig .tc .vmem S224x256 .f32) (harg17 : arg17.IsWhole) (arg18 : Memref sig .tc .vmem S72x1024 .f32) (harg18 : arg18.IsWhole) (arg19 : Memref sig .tc .vmem S72x1024 .f32) (harg19 : arg19.IsWhole) (hc0 : ¬cond0_0 i) (hc1 : ¬cond0_1 i) (hc2 : cond0_2 i)
    (x0 : Vec F S32x7168 .bf16) (x1 : Vec F S256x3584 .i8) (x2 : Vec F S224x256 .f16) (x3 : Vec F S224x256 .f16) (x4 : Vec F S256x3584 .i8) (x5 : Vec F S224x256 .f16) (x6 : Vec F S224x256 .f16) (x7 : Vec F S1024x1152 .i8) (x8 : Vec F S72x1024 .f16) (x9 : Vec F S72x1024 .f16) (xs0 : Vec F S28x32x256 .bf16) (xs1 : Vec F S9x32x256 .bf16) :
    { LO : List (View.Piece (Elt F) S32x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs0 ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f LO) ∗ owns (c : Thread nD τ) arg12 fullShare xs0 ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_q4_swiglu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0_q4_swiglu_eq_skeleton]; unfold cc0_q4_swiglu_skel
    simp only [k0_part277_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part278_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs0; obtain rfl := harg13.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [HS0]
    · iexists _; isplitr; · ipureintro; exact harg12.read_unread _
      iexact HS0
    isplitl [HS1]
    · iexists _; isplitr; · ipureintro; exact harg13.read_unread _
      iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.KernelIdeal.Gen

end
-- ==== Proof.Body.WitA.lean ====
/- What the body stores at the first point, in the kernel's arithmetic as it is written once for every tile. -/
module

public import proofs.«01_k».proof.Proof.Body.Tile
public import proofs.«01_k».proof.Proof.Body.RunC

@[expose] public section

set_option maxRecDepth 100000

noncomputable section

namespace Cert.KernelIdeal.Gen

open Idealize.ShloMosaic Idealize.ShloMosaic.TcCoe Idealize.SL.Sem

variable {F : FTy → Type} [FloatOps F]

set_option maxHeartbeats 8000000 in
/-- The first point: the activations' pieces are the permuted blocks. -/
theorem runA_slabs (c : Dev nD) (i : grid0.Coords) (arg1 : Memref sig .tc .vmem S32x7168 .bf16) (harg1 : arg1.IsWhole) (arg2 : Memref sig .tc .vmem S256x3584 .i8) (harg2 : arg2.IsWhole) (arg3 : Memref sig .tc .vmem S224x256 .f16) (harg3 : arg3.IsWhole) (arg4 : Memref sig .tc .vmem S224x256 .f16) (harg4 : arg4.IsWhole) (arg5 : Memref sig .tc .vmem S256x3584 .i8) (harg5 : arg5.IsWhole) (arg6 : Memref sig .tc .vmem S224x256 .f16) (harg6 : arg6.IsWhole) (arg7 : Memref sig .tc .vmem S224x256 .f16) (harg7 : arg7.IsWhole) (arg8 : Memref sig .tc .vmem S1024x1152 .i8) (harg8 : arg8.IsWhole) (arg9 : Memref sig .tc .vmem S72x1024 .f16) (harg9 : arg9.IsWhole) (arg10 : Memref sig .tc .vmem S72x1024 .f16) (harg10 : arg10.IsWhole) (arg11 : Memref sig .tc .vmem S32x1024 .bf16) (harg11 : arg11.IsWhole) (arg12 : Memref sig .tc .vmem S28x32x256 .bf16) (harg12 : arg12.IsWhole) (arg13 : Memref sig .tc .vmem S9x32x256 .bf16) (harg13 : arg13.IsWhole) (arg14 : Memref sig .tc .vmem S224x256 .f32) (harg14 : arg14.IsWhole) (arg15 : Memref sig .tc .vmem S224x256 .f32) (harg15 : arg15.IsWhole) (arg16 : Memref sig .tc .vmem S224x256 .f32) (harg16 : arg16.IsWhole) (arg17 : Memref sig .tc .vmem S224x256 .f32) (harg17 : arg17.IsWhole) (arg18 : Memref sig .tc .vmem S72x1024 .f32) (harg18 : arg18.IsWhole) (arg19 : Memref sig .tc .vmem S72x1024 .f32) (harg19 : arg19.IsWhole) (hc0 : cond0_0 i) (hc1 : cond0_1 i) (hc2 : ¬cond0_2 i)
    (x0 : Vec F S32x7168 .bf16) (x1 : Vec F S256x3584 .i8) (x2 : Vec F S224x256 .f16) (x3 : Vec F S224x256 .f16) (x4 : Vec F S256x3584 .i8) (x5 : Vec F S224x256 .f16) (x6 : Vec F S224x256 .f16) (x7 : Vec F S1024x1152 .i8) (x8 : Vec F S72x1024 .f16) (x9 : Vec F S72x1024 .f16) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).1.1 = Tile.slabs (arg1.view.read (Elt F) (harg1.unread x0)) := rfl

set_option maxHeartbeats 8000000 in
/-- The first point: the hidden layer's piece is the permuted hidden block. -/
theorem runA_pieces (c : Dev nD) (i : grid0.Coords) (arg1 : Memref sig .tc .vmem S32x7168 .bf16) (harg1 : arg1.IsWhole) (arg2 : Memref sig .tc .vmem S256x3584 .i8) (harg2 : arg2.IsWhole) (arg3 : Memref sig .tc .vmem S224x256 .f16) (harg3 : arg3.IsWhole) (arg4 : Memref sig .tc .vmem S224x256 .f16) (harg4 : arg4.IsWhole) (arg5 : Memref sig .tc .vmem S256x3584 .i8) (harg5 : arg5.IsWhole) (arg6 : Memref sig .tc .vmem S224x256 .f16) (harg6 : arg6.IsWhole) (arg7 : Memref sig .tc .vmem S224x256 .f16) (harg7 : arg7.IsWhole) (arg8 : Memref sig .tc .vmem S1024x1152 .i8) (harg8 : arg8.IsWhole) (arg9 : Memref sig .tc .vmem S72x1024 .f16) (harg9 : arg9.IsWhole) (arg10 : Memref sig .tc .vmem S72x1024 .f16) (harg10 : arg10.IsWhole) (arg11 : Memref sig .tc .vmem S32x1024 .bf16) (harg11 : arg11.IsWhole) (arg12 : Memref sig .tc .vmem S28x32x256 .bf16) (harg12 : arg12.IsWhole) (arg13 : Memref sig .tc .vmem S9x32x256 .bf16) (harg13 : arg13.IsWhole) (arg14 : Memref sig .tc .vmem S224x256 .f32) (harg14 : arg14.IsWhole) (arg15 : Memref sig .tc .vmem S224x256 .f32) (harg15 : arg15.IsWhole) (arg16 : Memref sig .tc .vmem S224x256 .f32) (harg16 : arg16.IsWhole) (arg17 : Memref sig .tc .vmem S224x256 .f32) (harg17 : arg17.IsWhole) (arg18 : Memref sig .tc .vmem S72x1024 .f32) (harg18 : arg18.IsWhole) (arg19 : Memref sig .tc .vmem S72x1024 .f32) (harg19 : arg19.IsWhole) (hc0 : cond0_0 i) (hc1 : cond0_1 i) (hc2 : ¬cond0_2 i)
    (x0 : Vec F S32x7168 .bf16) (x1 : Vec F S256x3584 .i8) (x2 : Vec F S224x256 .f16) (x3 : Vec F S224x256 .f16) (x4 : Vec F S256x3584 .i8) (x5 : Vec F S224x256 .f16) (x6 : Vec F S224x256 .f16) (x7 : Vec F S1024x1152 .i8) (x8 : Vec F S72x1024 .f16) (x9 : Vec F S72x1024 .f16) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).1.2
      = [⟨Rect.unit (k0_off1 i) S1x32x256.size (k0_off1_inb i hc1),
        Tile.slab (Tile.hidden
          (Tile.up (arg12.view.read (Elt F) (arg12.view.writes (Elt F) arg12.view.junk (Tile.slabs (arg1.view.read (Elt F) (harg1.unread x0))))) (arg2.view.read (Elt F) (harg2.unread x1))
            (arg14.view.read (Elt F) (arg14.view.writes (Elt F) arg14.view.junk [⟨Rect.unit ![0, 0] S224x256.size inb_S224x256_S224x256_0_0, k0_pay40 (arg3.view.readAt (Elt F) (Rect.unit ![0, 0] S224x256.size inb_S224x256_S224x256_0_0).toLoadRect (harg3.unread x2))⟩]))
            (arg15.view.read (Elt F) (arg15.view.writes (Elt F) arg15.view.junk [⟨Rect.unit ![0, 0] S224x256.size inb_S224x256_S224x256_0_0, k0_pay41 (arg4.view.readAt (Elt F) (Rect.unit ![0, 0] S224x256.size inb_S224x256_S224x256_0_0).toLoadRect (harg4.unread x3))⟩])))
          (Tile.up (arg12.view.read (Elt F) (arg12.view.writes (Elt F) arg12.view.junk (Tile.slabs (arg1.view.read (Elt F) (harg1.unread x0))))) (arg5.view.read (Elt F) (harg5.unread x4))
            (arg16.view.read (Elt F) (arg16.view.writes (Elt F) arg16.view.junk [⟨Rect.unit ![0, 0] S224x256.size inb_S224x256_S224x256_0_0, k0_pay42 (arg6.view.readAt (Elt F) (Rect.unit ![0, 0] S224x256.size inb_S224x256_S224x256_0_0).toLoadRect (harg6.unread x5))⟩]))
            (arg17.view.read (Elt F) (arg17.view.writes (Elt F) arg17.view.junk [⟨Rect.unit ![0, 0] S224x256.size inb_S224x256_S224x256_0_0, k0_pay43 (arg7.view.readAt (Elt F) (Rect.unit ![0, 0] S224x256.size inb_S224x256_S224x256_0_0).toLoadRect (harg7.unread x6))⟩]))))⟩] := rfl

end Cert.KernelIdeal.Gen

end
-- ==== Proof.Body.WitB.lean ====
/- What the body stores at points 1 to 8, in the kernel's arithmetic as it is written once for every tile. -/
module

public import proofs.«01_k».proof.Proof.Body.Tile
public import proofs.«01_k».proof.Proof.Body.RunC

@[expose] public section

set_option maxRecDepth 100000

noncomputable section

namespace Cert.KernelIdeal.Gen

open Idealize.ShloMosaic Idealize.ShloMosaic.TcCoe Idealize.SL.Sem

variable {F : FTy → Type} [FloatOps F]

set_option maxHeartbeats 8000000 in
/-- Points 1 to 8: the piece is the permuted hidden block. -/
theorem runB_pieces (c : Dev nD) (i : grid0.Coords) (arg1 : Memref sig .tc .vmem S32x7168 .bf16) (harg1 : arg1.IsWhole) (arg2 : Memref sig .tc .vmem S256x3584 .i8) (harg2 : arg2.IsWhole) (arg3 : Memref sig .tc .vmem S224x256 .f16) (harg3 : arg3.IsWhole) (arg4 : Memref sig .tc .vmem S224x256 .f16) (harg4 : arg4.IsWhole) (arg5 : Memref sig .tc .vmem S256x3584 .i8) (harg5 : arg5.IsWhole) (arg6 : Memref sig .tc .vmem S224x256 .f16) (harg6 : arg6.IsWhole) (arg7 : Memref sig .tc .vmem S224x256 .f16) (harg7 : arg7.IsWhole) (arg8 : Memref sig .tc .vmem S1024x1152 .i8) (harg8 : arg8.IsWhole) (arg9 : Memref sig .tc .vmem S72x1024 .f16) (harg9 : arg9.IsWhole) (arg10 : Memref sig .tc .vmem S72x1024 .f16) (harg10 : arg10.IsWhole) (arg11 : Memref sig .tc .vmem S32x1024 .bf16) (harg11 : arg11.IsWhole) (arg12 : Memref sig .tc .vmem S28x32x256 .bf16) (harg12 : arg12.IsWhole) (arg13 : Memref sig .tc .vmem S9x32x256 .bf16) (harg13 : arg13.IsWhole) (arg14 : Memref sig .tc .vmem S224x256 .f32) (harg14 : arg14.IsWhole) (arg15 : Memref sig .tc .vmem S224x256 .f32) (harg15 : arg15.IsWhole) (arg16 : Memref sig .tc .vmem S224x256 .f32) (harg16 : arg16.IsWhole) (arg17 : Memref sig .tc .vmem S224x256 .f32) (harg17 : arg17.IsWhole) (arg18 : Memref sig .tc .vmem S72x1024 .f32) (harg18 : arg18.IsWhole) (arg19 : Memref sig .tc .vmem S72x1024 .f32) (harg19 : arg19.IsWhole) (hc0 : ¬cond0_0 i) (hc1 : cond0_1 i) (hc2 : ¬cond0_2 i)
    (x0 : Vec F S32x7168 .bf16) (x1 : Vec F S256x3584 .i8) (x2 : Vec F S224x256 .f16) (x3 : Vec F S224x256 .f16) (x4 : Vec F S256x3584 .i8) (x5 : Vec F S224x256 .f16) (x6 : Vec F S224x256 .f16) (x7 : Vec F S1024x1152 .i8) (x8 : Vec F S72x1024 .f16) (x9 : Vec F S72x1024 .f16) (xs0 : Vec F S28x32x256 .bf16) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0).1
      = [⟨Rect.unit (k0_off1 i) S1x32x256.size (k0_off1_inb i hc1),
        Tile.slab (Tile.hidden
          (Tile.up (arg12.view.read (Elt F) (harg12.unread xs0)) (arg2.view.read (Elt F) (harg2.unread x1))
            (arg14.view.read (Elt F) (arg14.view.writes (Elt F) arg14.view.junk [⟨Rect.unit ![0, 0] S224x256.size inb_S224x256_S224x256_0_0, k0_pay40 (arg3.view.readAt (Elt F) (Rect.unit ![0, 0] S224x256.size inb_S224x256_S224x256_0_0).toLoadRect (harg3.unread x2))⟩]))
            (arg15.view.read (Elt F) (arg15.view.writes (Elt F) arg15.view.junk [⟨Rect.unit ![0, 0] S224x256.size inb_S224x256_S224x256_0_0, k0_pay41 (arg4.view.readAt (Elt F) (Rect.unit ![0, 0] S224x256.size inb_S224x256_S224x256_0_0).toLoadRect (harg4.unread x3))⟩])))
          (Tile.up (arg12.view.read (Elt F) (harg12.unread xs0)) (arg5.view.read (Elt F) (harg5.unread x4))
            (arg16.view.read (Elt F) (arg16.view.writes (Elt F) arg16.view.junk [⟨Rect.unit ![0, 0] S224x256.size inb_S224x256_S224x256_0_0, k0_pay42 (arg6.view.readAt (Elt F) (Rect.unit ![0, 0] S224x256.size inb_S224x256_S224x256_0_0).toLoadRect (harg6.unread x5))⟩]))
            (arg17.view.read (Elt F) (arg17.view.writes (Elt F) arg17.view.junk [⟨Rect.unit ![0, 0] S224x256.size inb_S224x256_S224x256_0_0, k0_pay43 (arg7.view.readAt (Elt F) (Rect.unit ![0, 0] S224x256.size inb_S224x256_S224x256_0_0).toLoadRect (harg7.unread x6))⟩]))))⟩] := rfl

end Cert.KernelIdeal.Gen

end
-- ==== Proof.Body.WitC.lean ====
/- What the body stores at points 9 to 15, in the kernel's arithmetic as it is written once for every tile. -/
module

public import proofs.«01_k».proof.Proof.Body.Tile
public import proofs.«01_k».proof.Proof.Body.RunC

@[expose] public section

set_option maxRecDepth 100000

noncomputable section

namespace Cert.KernelIdeal.Gen

open Idealize.ShloMosaic Idealize.ShloMosaic.TcCoe Idealize.SL.Sem

variable {F : FTy → Type} [FloatOps F]

set_option maxHeartbeats 8000000 in
/-- Points 9 to 15: the pieces are the four column blocks. -/
theorem runC_pieces (c : Dev nD) (i : grid0.Coords) (arg1 : Memref sig .tc .vmem S32x7168 .bf16) (harg1 : arg1.IsWhole) (arg2 : Memref sig .tc .vmem S256x3584 .i8) (harg2 : arg2.IsWhole) (arg3 : Memref sig .tc .vmem S224x256 .f16) (harg3 : arg3.IsWhole) (arg4 : Memref sig .tc .vmem S224x256 .f16) (harg4 : arg4.IsWhole) (arg5 : Memref sig .tc .vmem S256x3584 .i8) (harg5 : arg5.IsWhole) (arg6 : Memref sig .tc .vmem S224x256 .f16) (harg6 : arg6.IsWhole) (arg7 : Memref sig .tc .vmem S224x256 .f16) (harg7 : arg7.IsWhole) (arg8 : Memref sig .tc .vmem S1024x1152 .i8) (harg8 : arg8.IsWhole) (arg9 : Memref sig .tc .vmem S72x1024 .f16) (harg9 : arg9.IsWhole) (arg10 : Memref sig .tc .vmem S72x1024 .f16) (harg10 : arg10.IsWhole) (arg11 : Memref sig .tc .vmem S32x1024 .bf16) (harg11 : arg11.IsWhole) (arg12 : Memref sig .tc .vmem S28x32x256 .bf16) (harg12 : arg12.IsWhole) (arg13 : Memref sig .tc .vmem S9x32x256 .bf16) (harg13 : arg13.IsWhole) (arg14 : Memref sig .tc .vmem S224x256 .f32) (harg14 : arg14.IsWhole) (arg15 : Memref sig .tc .vmem S224x256 .f32) (harg15 : arg15.IsWhole) (arg16 : Memref sig .tc .vmem S224x256 .f32) (harg16 : arg16.IsWhole) (arg17 : Memref sig .tc .vmem S224x256 .f32) (harg17 : arg17.IsWhole) (arg18 : Memref sig .tc .vmem S72x1024 .f32) (harg18 : arg18.IsWhole) (arg19 : Memref sig .tc .vmem S72x1024 .f32) (harg19 : arg19.IsWhole) (hc0 : ¬cond0_0 i) (hc1 : ¬cond0_1 i) (hc2 : cond0_2 i)
    (x0 : Vec F S32x7168 .bf16) (x1 : Vec F S256x3584 .i8) (x2 : Vec F S224x256 .f16) (x3 : Vec F S224x256 .f16) (x4 : Vec F S256x3584 .i8) (x5 : Vec F S224x256 .f16) (x6 : Vec F S224x256 .f16) (x7 : Vec F S1024x1152 .i8) (x8 : Vec F S72x1024 .f16) (x9 : Vec F S72x1024 .f16) (xs0 : Vec F S28x32x256 .bf16) (xs1 : Vec F S9x32x256 .bf16) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 xs0 xs1).1
      = Tile.columns (arg13.view.read (Elt F) (harg13.unread xs1)) (arg8.view.read (Elt F) (harg8.unread x7))
        (arg18.view.read (Elt F) (arg18.view.writes (Elt F) arg18.view.junk [⟨Rect.unit ![0, 0] S72x1024.size inb_S72x1024_S72x1024_0_0, k0_pay1073 (arg9.view.readAt (Elt F) (Rect.unit ![0, 0] S72x1024.size inb_S72x1024_S72x1024_0_0).toLoadRect (harg9.unread x8))⟩]))
        (arg19.view.read (Elt F) (arg19.view.writes (Elt F) arg19.view.junk [⟨Rect.unit ![0, 0] S72x1024.size inb_S72x1024_S72x1024_0_0, k0_pay1074 (arg10.view.readAt (Elt F) (Rect.unit ![0, 0] S72x1024.size inb_S72x1024_S72x1024_0_0).toLoadRect (harg10.unread x9))⟩])) := rfl

end Cert.KernelIdeal.Gen

end
-- ==== Proof.Value.Points.lean ====
/- What each kind of point leaves in the scratch buffers and in the output block, given what the points before left. -/
module

public import proofs.«01_k».proof.Proof.Value.Steps
public import proofs.«01_k».proof.Proof.Body.WitA
public import proofs.«01_k».proof.Proof.Body.WitB
public import proofs.«01_k».proof.Proof.Body.WitC

@[expose] public section

set_option maxRecDepth 100000

noncomputable section

namespace Cert.KernelIdeal.Gen

open Idealize.ShloMosaic Idealize.ShloMosaic.TcCoe Idealize.SL.Sem Cert.Spec

variable (m : (ℓ : Loc nD τ sig) → Buf (Elt Ideal) ℓ)

/-- A load of a whole buffer, from its contents. -/
theorem readAt_whole {S : Shape} {e : EltTy} (a : Memref sig .tc .vmem S e) (h : a.IsWhole) {off : Fin S.rank → ℕ}
    (hz : off = fun _ => 0) (inb : ∀ a, off a + S.size a ≤ S.size a) (X : Vec Ideal S e) :
    a.view.readAt (Elt Ideal) (Rect.unit off S.size inb).toLoadRect (h.unread X) = X := by
  show View.ld (a.view.read (Elt Ideal) (h.unread X)) (Rect.unit off S.size inb) = X
  rw [h.read_unread]
  exact View.ld_unit_zero hz inb X

theorem off1_at (t : Fin cfg0.N) : k0_off1 (grid0.coords t) = ![t.val, 0, 0] := by
  have hT := lt_of_lt_of_eq t.isLt (show cfg0.N = 16 from N_0)
  have e : (grid0.coords t 0).val = t.val := by
    rw [show (grid0.coords t 0).val = t.val / 1 % 16 from Pipeline.Grid.coords_val t 0 (by decide) rfl]
    omega
  rw [k0_off1_eq, e]

/-- The first point leaves the permuted activations. -/
theorem pointA_slabs (c : Dev nD) (t : Fin cfg0.N) (arg1 : Memref sig .tc .vmem S32x7168 .bf16) (harg1 : arg1.IsWhole) (arg2 : Memref sig .tc .vmem S256x3584 .i8) (harg2 : arg2.IsWhole) (arg3 : Memref sig .tc .vmem S224x256 .f16) (harg3 : arg3.IsWhole) (arg4 : Memref sig .tc .vmem S224x256 .f16) (harg4 : arg4.IsWhole) (arg5 : Memref sig .tc .vmem S256x3584 .i8) (harg5 : arg5.IsWhole) (arg6 : Memref sig .tc .vmem S224x256 .f16) (harg6 : arg6.IsWhole) (arg7 : Memref sig .tc .vmem S224x256 .f16) (harg7 : arg7.IsWhole) (arg8 : Memref sig .tc .vmem S1024x1152 .i8) (harg8 : arg8.IsWhole) (arg9 : Memref sig .tc .vmem S72x1024 .f16) (harg9 : arg9.IsWhole) (arg10 : Memref sig .tc .vmem S72x1024 .f16) (harg10 : arg10.IsWhole) (arg11 : Memref sig .tc .vmem S32x1024 .bf16) (harg11 : arg11.IsWhole) (arg12 : Memref sig .tc .vmem S28x32x256 .bf16) (harg12 : arg12.IsWhole) (arg13 : Memref sig .tc .vmem S9x32x256 .bf16) (harg13 : arg13.IsWhole) (arg14 : Memref sig .tc .vmem S224x256 .f32) (harg14 : arg14.IsWhole) (arg15 : Memref sig .tc .vmem S224x256 .f32) (harg15 : arg15.IsWhole) (arg16 : Memref sig .tc .vmem S224x256 .f32) (harg16 : arg16.IsWhole) (arg17 : Memref sig .tc .vmem S224x256 .f32) (harg17 : arg17.IsWhole) (arg18 : Memref sig .tc .vmem S72x1024 .f32) (harg18 : arg18.IsWhole) (arg19 : Memref sig .tc .vmem S72x1024 .f32) (harg19 : arg19.IsWhole) (hc0 : cond0_0 (grid0.coords t)) (hc1 : cond0_1 (grid0.coords t)) (hc2 : ¬cond0_2 (grid0.coords t))
    (f : arg12.view.ty.Contents (Elt Ideal)) :
    Tile.Permuted (T := 28) rfl (at2 (argX m c)) (arg12.view.read (Elt Ideal) (arg12.view.writes (Elt Ideal) f (runA (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 (iblk m c 0 t) (iblk m c 1 t) (iblk m c 2 t) (iblk m c 3 t) (iblk m c 4 t) (iblk m c 5 t) (iblk m c 6 t) (iblk m c 7 t) (iblk m c 8 t) (iblk m c 9 t)).1.1)) := by
  rw [runA_slabs, harg1.read_unread, iblk0_apply m c t]
  exact slabs_permuted arg12.view f (argX m c)

set_option maxHeartbeats 4000000 in
/-- The first point leaves the first block of the hidden layer. -/
theorem pointA_hid (c : Dev nD) (t : Fin cfg0.N) (arg1 : Memref sig .tc .vmem S32x7168 .bf16) (harg1 : arg1.IsWhole) (arg2 : Memref sig .tc .vmem S256x3584 .i8) (harg2 : arg2.IsWhole) (arg3 : Memref sig .tc .vmem S224x256 .f16) (harg3 : arg3.IsWhole) (arg4 : Memref sig .tc .vmem S224x256 .f16) (harg4 : arg4.IsWhole) (arg5 : Memref sig .tc .vmem S256x3584 .i8) (harg5 : arg5.IsWhole) (arg6 : Memref sig .tc .vmem S224x256 .f16) (harg6 : arg6.IsWhole) (arg7 : Memref sig .tc .vmem S224x256 .f16) (harg7 : arg7.IsWhole) (arg8 : Memref sig .tc .vmem S1024x1152 .i8) (harg8 : arg8.IsWhole) (arg9 : Memref sig .tc .vmem S72x1024 .f16) (harg9 : arg9.IsWhole) (arg10 : Memref sig .tc .vmem S72x1024 .f16) (harg10 : arg10.IsWhole) (arg11 : Memref sig .tc .vmem S32x1024 .bf16) (harg11 : arg11.IsWhole) (arg12 : Memref sig .tc .vmem S28x32x256 .bf16) (harg12 : arg12.IsWhole) (arg13 : Memref sig .tc .vmem S9x32x256 .bf16) (harg13 : arg13.IsWhole) (arg14 : Memref sig .tc .vmem S224x256 .f32) (harg14 : arg14.IsWhole) (arg15 : Memref sig .tc .vmem S224x256 .f32) (harg15 : arg15.IsWhole) (arg16 : Memref sig .tc .vmem S224x256 .f32) (harg16 : arg16.IsWhole) (arg17 : Memref sig .tc .vmem S224x256 .f32) (harg17 : arg17.IsWhole) (arg18 : Memref sig .tc .vmem S72x1024 .f32) (harg18 : arg18.IsWhole) (arg19 : Memref sig .tc .vmem S72x1024 .f32) (harg19 : arg19.IsWhole) (hc0 : cond0_0 (grid0.coords t)) (hc1 : cond0_1 (grid0.coords t)) (hc2 : ¬cond0_2 (grid0.coords t))
    (ht : t.val < 9) (xs1 : Vec Ideal S9x32x256 .bf16) (hf : HidUpTo m c t.val xs1) :
    HidUpTo m c (t.val + 1) (arg13.view.read (Elt Ideal) (arg13.view.writes (Elt Ideal) (harg13.unread xs1) (runA (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 (iblk m c 0 t) (iblk m c 1 t) (iblk m c 2 t) (iblk m c 3 t) (iblk m c 4 t) (iblk m c 5 t) (iblk m c 6 t) (iblk m c 7 t) (iblk m c 8 t) (iblk m c 9 t)).1.2)) := by
  rw [runA_pieces]
  rw [harg1.read_unread, iblk0_apply m c t]
  have hp := slabs_permuted arg12.view arg12.view.junk (argX m c)
  generalize arg12.view.read (Elt Ideal) (arg12.view.writes (Elt Ideal) arg12.view.junk (Tile.slabs (argX m c))) = xs0 at hp ⊢
  rw [read_whole arg14.view _ zero2 _ _, read_whole arg15.view _ zero2 _ _, read_whole arg16.view _ zero2 _ _, read_whole arg17.view _ zero2 _ _]
  rw [readAt_whole arg3 harg3 zero2, readAt_whole arg4 harg4 zero2, readAt_whole arg6 harg6 zero2, readAt_whole arg7 harg7 zero2]
  rw [harg2.read_unread, harg5.read_unread]
  refine hid_step m arg13.view _ c t.val ht (off1_at t) _ _ (fun b n => hidden_rows m c t ht xs0 hp b n) ?_
  rw [harg13.read_unread]
  exact hf

set_option maxHeartbeats 4000000 in
/-- A point of the next eight adds its block of the hidden layer. -/
theorem pointB_hid (c : Dev nD) (t : Fin cfg0.N) (arg1 : Memref sig .tc .vmem S32x7168 .bf16) (harg1 : arg1.IsWhole) (arg2 : Memref sig .tc .vmem S256x3584 .i8) (harg2 : arg2.IsWhole) (arg3 : Memref sig .tc .vmem S224x256 .f16) (harg3 : arg3.IsWhole) (arg4 : Memref sig .tc .vmem S224x256 .f16) (harg4 : arg4.IsWhole) (arg5 : Memref sig .tc .vmem S256x3584 .i8) (harg5 : arg5.IsWhole) (arg6 : Memref sig .tc .vmem S224x256 .f16) (harg6 : arg6.IsWhole) (arg7 : Memref sig .tc .vmem S224x256 .f16) (harg7 : arg7.IsWhole) (arg8 : Memref sig .tc .vmem S1024x1152 .i8) (harg8 : arg8.IsWhole) (arg9 : Memref sig .tc .vmem S72x1024 .f16) (harg9 : arg9.IsWhole) (arg10 : Memref sig .tc .vmem S72x1024 .f16) (harg10 : arg10.IsWhole) (arg11 : Memref sig .tc .vmem S32x1024 .bf16) (harg11 : arg11.IsWhole) (arg12 : Memref sig .tc .vmem S28x32x256 .bf16) (harg12 : arg12.IsWhole) (arg13 : Memref sig .tc .vmem S9x32x256 .bf16) (harg13 : arg13.IsWhole) (arg14 : Memref sig .tc .vmem S224x256 .f32) (harg14 : arg14.IsWhole) (arg15 : Memref sig .tc .vmem S224x256 .f32) (harg15 : arg15.IsWhole) (arg16 : Memref sig .tc .vmem S224x256 .f32) (harg16 : arg16.IsWhole) (arg17 : Memref sig .tc .vmem S224x256 .f32) (harg17 : arg17.IsWhole) (arg18 : Memref sig .tc .vmem S72x1024 .f32) (harg18 : arg18.IsWhole) (arg19 : Memref sig .tc .vmem S72x1024 .f32) (harg19 : arg19.IsWhole) (hc0 : ¬cond0_0 (grid0.coords t)) (hc1 : cond0_1 (grid0.coords t)) (hc2 : ¬cond0_2 (grid0.coords t))
    (ht : t.val < 9) (xs0 : Vec Ideal S28x32x256 .bf16) (hp : Tile.Permuted (T := 28) rfl (at2 (argX m c)) xs0) (xs1 : Vec Ideal S9x32x256 .bf16) (hf : HidUpTo m c t.val xs1) :
    HidUpTo m c (t.val + 1) (arg13.view.read (Elt Ideal) (arg13.view.writes (Elt Ideal) (harg13.unread xs1) (runB (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 (iblk m c 0 t) (iblk m c 1 t) (iblk m c 2 t) (iblk m c 3 t) (iblk m c 4 t) (iblk m c 5 t) (iblk m c 6 t) (iblk m c 7 t) (iblk m c 8 t) (iblk m c 9 t) xs0).1)) := by
  rw [runB_pieces]
  rw [harg12.read_unread]
  rw [read_whole arg14.view _ zero2 _ _, read_whole arg15.view _ zero2 _ _, read_whole arg16.view _ zero2 _ _, read_whole arg17.view _ zero2 _ _]
  rw [readAt_whole arg3 harg3 zero2, readAt_whole arg4 harg4 zero2, readAt_whole arg6 harg6 zero2, readAt_whole arg7 harg7 zero2]
  rw [harg2.read_unread, harg5.read_unread]
  refine hid_step m arg13.view _ c t.val ht (off1_at t) _ _ (fun b n => hidden_rows m c t ht xs0 hp b n) ?_
  rw [harg13.read_unread]
  exact hf

set_option maxHeartbeats 4000000 in
/-- A point of the last seven leaves its block of the output. -/
theorem pointC_out (c : Dev nD) (t : Fin cfg0.N) (arg1 : Memref sig .tc .vmem S32x7168 .bf16) (harg1 : arg1.IsWhole) (arg2 : Memref sig .tc .vmem S256x3584 .i8) (harg2 : arg2.IsWhole) (arg3 : Memref sig .tc .vmem S224x256 .f16) (harg3 : arg3.IsWhole) (arg4 : Memref sig .tc .vmem S224x256 .f16) (harg4 : arg4.IsWhole) (arg5 : Memref sig .tc .vmem S256x3584 .i8) (harg5 : arg5.IsWhole) (arg6 : Memref sig .tc .vmem S224x256 .f16) (harg6 : arg6.IsWhole) (arg7 : Memref sig .tc .vmem S224x256 .f16) (harg7 : arg7.IsWhole) (arg8 : Memref sig .tc .vmem S1024x1152 .i8) (harg8 : arg8.IsWhole) (arg9 : Memref sig .tc .vmem S72x1024 .f16) (harg9 : arg9.IsWhole) (arg10 : Memref sig .tc .vmem S72x1024 .f16) (harg10 : arg10.IsWhole) (arg11 : Memref sig .tc .vmem S32x1024 .bf16) (harg11 : arg11.IsWhole) (arg12 : Memref sig .tc .vmem S28x32x256 .bf16) (harg12 : arg12.IsWhole) (arg13 : Memref sig .tc .vmem S9x32x256 .bf16) (harg13 : arg13.IsWhole) (arg14 : Memref sig .tc .vmem S224x256 .f32) (harg14 : arg14.IsWhole) (arg15 : Memref sig .tc .vmem S224x256 .f32) (harg15 : arg15.IsWhole) (arg16 : Memref sig .tc .vmem S224x256 .f32) (harg16 : arg16.IsWhole) (arg17 : Memref sig .tc .vmem S224x256 .f32) (harg17 : arg17.IsWhole) (arg18 : Memref sig .tc .vmem S72x1024 .f32) (harg18 : arg18.IsWhole) (arg19 : Memref sig .tc .vmem S72x1024 .f32) (harg19 : arg19.IsWhole) (hc0 : ¬cond0_0 (grid0.coords t)) (hc1 : ¬cond0_1 (grid0.coords t)) (hc2 : cond0_2 (grid0.coords t))
    (ht : 9 ≤ t.val) (xs0 : Vec Ideal S28x32x256 .bf16) (xs1 : Vec Ideal S9x32x256 .bf16) (hf : HidUpTo m c 9 xs1) (f : arg11.view.ty.Contents (Elt Ideal)) :
    arg11.view.read (Elt Ideal) (arg11.view.writes (Elt Ideal) f (runC (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 (iblk m c 0 t) (iblk m c 1 t) (iblk m c 2 t) (iblk m c 3 t) (iblk m c 4 t) (iblk m c 5 t) (iblk m c 6 t) (iblk m c 7 t) (iblk m c 8 t) (iblk m c 9 t) xs0 xs1).1) = outOf m c t ht := by
  rw [runC_pieces]
  rw [read_whole arg18.view _ zero2 _ _, read_whole arg19.view _ zero2 _ _]
  rw [readAt_whole arg9 harg9 zero2, readAt_whole arg10 harg10 zero2]
  rw [harg13.read_unread, harg8.read_unread]
  exact columns_out m arg11.view f c t ht xs1 hf

end Cert.KernelIdeal.Gen

end
-- ==== Proof.Body.Frame.lean ====
/- The run of the kernel at the real numbers: what the scratch buffers hold between points, what a point leaves in its windows,
   the body at every point, and the launch. -/
module

public import proofs.«01_k».proof.Proof.Value.Points
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

local notation "𝕄" => MT nD τ sig Unit (Elt Ideal) ℕ (UR sig nD τ) ℕ

variable (m : (ℓ : Loc nD τ sig) → Buf (Elt Ideal) ℓ) (ρ : Dev nD → PrngReg)

/-! ## Between points -/

theorem HidUpTo.zero (c : Dev nD) (v : Vec Ideal S9x32x256 .bf16) : HidUpTo m c 0 v := fun _ _ _ h => absurd h (Nat.not_lt_zero _)

/-- Once nine blocks are in, the rest of the grid changes nothing. -/
theorem HidUpTo.of_ge {c : Dev nD} {k l : ℕ} {v : Vec Ideal S9x32x256 .bf16} (h : HidUpTo m c k v) (hk : 9 ≤ k) : HidUpTo m c l v :=
  fun j b n _ => h j b n (lt_of_lt_of_le j.isLt hk)

/-- The region's invariant before position `n`: at first every scratch buffer holds anything; afterwards the first one holds the
    permuted activations, the second one the hidden layer's blocks so far. -/
def PhiS (c : Dev nD) : (n : ℕ) → n ≤ cfg0.N → sProp 𝕄
  | 0, _ => Pipeline.ΦA spec0 c
  | n + 1, _ => iprop(iprop((∃ x, ⌜Tile.Permuted (T := 28) rfl (at2 (argX m c)) x⌝ ∗ owns (c : Thread nD τ) scM0_0 fullShare x) ∗ (∃ x, ⌜HidUpTo m c (n + 1) x⌝ ∗ owns (c : Thread nD τ) scM0_1 fullShare x) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ x, ⌜Tile.Permuted (T := 28) rfl (at2 (argX m c)) x⌝ ∗ owns (c : Thread nD τ) scM0_0 fullShare x) ∗ (∃ x, ⌜HidUpTo m c (n + 1) x⌝ ∗ owns (c : Thread nD τ) scM0_1 fullShare x) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := rfl

theorem PhiS_pos (c : Dev nD) (n : ℕ) (h : n ≤ cfg0.N) (hz : n ≠ 0) :
    PhiS m c n h = iprop(iprop((∃ x, ⌜Tile.Permuted (T := 28) rfl (at2 (argX m c)) x⌝ ∗ owns (c : Thread nD τ) scM0_0 fullShare x) ∗ (∃ x, ⌜HidUpTo m c n x⌝ ∗ owns (c : Thread nD τ) scM0_1 fullShare x) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  cases n with
  | zero => exact absurd rfl hz
  | succ n => rfl

/-! ## The pipeline's proof data -/

/-- The output's block after a point: the last seven leave theirs. -/
def outAt (c : Dev nD) (t : Fin cfg0.N) : Vec Ideal S32x1024 .bf16 :=
  if h : 9 ≤ t.val then outOf m c t h else fun _ => (0 : EReal)

/-- The arrays as the region finds them; after a point each input's buffer at its block, the output's at `outAt`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

theorem leaves0_0 (c : Dev nD) (t : Fin cfg0.N) : (dats m 0 c).leavesExact 0 t = owns (c : Thread nD τ) (ms0_0 t) fullShare (iblk m c 0 t) := by
  rw [← after0_0 m c t]
theorem leaves0_1 (c : Dev nD) (t : Fin cfg0.N) : (dats m 0 c).leavesExact 1 t = owns (c : Thread nD τ) (ms0_1 t) fullShare (iblk m c 1 t) := by
  rw [← after0_1 m c t]
theorem leaves0_2 (c : Dev nD) (t : Fin cfg0.N) : (dats m 0 c).leavesExact 2 t = owns (c : Thread nD τ) (ms0_2 t) fullShare (iblk m c 2 t) := by
  rw [← after0_2 m c t]
theorem leaves0_3 (c : Dev nD) (t : Fin cfg0.N) : (dats m 0 c).leavesExact 3 t = owns (c : Thread nD τ) (ms0_3 t) fullShare (iblk m c 3 t) := by
  rw [← after0_3 m c t]
theorem leaves0_4 (c : Dev nD) (t : Fin cfg0.N) : (dats m 0 c).leavesExact 4 t = owns (c : Thread nD τ) (ms0_4 t) fullShare (iblk m c 4 t) := by
  rw [← after0_4 m c t]
theorem leaves0_5 (c : Dev nD) (t : Fin cfg0.N) : (dats m 0 c).leavesExact 5 t = owns (c : Thread nD τ) (ms0_5 t) fullShare (iblk m c 5 t) := by
  rw [← after0_5 m c t]
theorem leaves0_6 (c : Dev nD) (t : Fin cfg0.N) : (dats m 0 c).leavesExact 6 t = owns (c : Thread nD τ) (ms0_6 t) fullShare (iblk m c 6 t) := by
  rw [← after0_6 m c t]
theorem leaves0_7 (c : Dev nD) (t : Fin cfg0.N) : (dats m 0 c).leavesExact 7 t = owns (c : Thread nD τ) (ms0_7 t) fullShare (iblk m c 7 t) := by
  rw [← after0_7 m c t]
theorem leaves0_8 (c : Dev nD) (t : Fin cfg0.N) : (dats m 0 c).leavesExact 8 t = owns (c : Thread nD τ) (ms0_8 t) fullShare (iblk m c 8 t) := by
  rw [← after0_8 m c t]
theorem leaves0_9 (c : Dev nD) (t : Fin cfg0.N) : (dats m 0 c).leavesExact 9 t = owns (c : Thread nD τ) (ms0_9 t) fullShare (iblk m c 9 t) := by
  rw [← after0_9 m c t]
theorem leaves0_10_live (c : Dev nD) (t : Fin cfg0.N) (h : 9 ≤ t.val) : (dats m 0 c).leavesExact 10 t = owns (c : Thread nD τ) (ms0_10 t) fullShare (outOf m c t h) := by
  have e : (dats m 0 c).after 10 t = outOf m c t h := (after0_10 m c t).trans (dif_pos h)
  rw [← e]; unfold Dat.leavesExact; rw [liveAt0_10 t h]
theorem leaves0_10_idle (c : Dev nD) (t : Fin cfg0.N) (h : t.val < 9) :
    (dats m 0 c).leavesExact 10 t = iprop(∃ d, owns (c : Thread nD τ) (ms0_10 t) fullShare ((dats m 0 c).before 10 t d)) :=
  (dats m 0 c).leavesExact_idle 10 t (idleAt0_10 t h) (noflush0_10 t h)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 19200000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9]
  have hN : t.val < 16 := lt_of_lt_of_eq t.isLt (show cfg0.N = 16 from N_0)
  by_cases hz : t.val = 0
  · have h0 : t.val % 16 = 0 := by omega
    have h1 : t.val < 9 := by omega
    rw [leaves0_10_idle m c t h1, PhiS_castSucc m c t, PhiS_zero m c _ _ hz, PhiA0_eq]
    iintro ⟨⟨⟨HS0, ⟨%xs1, HS1⟩, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA c (grid0.coords t) _ _ _ _ _ _ _ _ _ _ _ _ _ _ _ _ _ _ _ _ _ _ _ _ _ _ _ _ _ _ _ _ _ _ _ _ _ _ ((hcond0_0 t).mpr h0) ((hcond0_1 t).mpr h1) (fun h => absurd ((hcond0_2 t).mp h) (by omega)) (iblk m c 0 t) (iblk m c 1 t) (iblk m c 2 t) (iblk m c 3 t) (iblk m c 4 t) (iblk m c 5 t) (iblk m c 6 t) (iblk m c 7 t) (iblk m c 8 t) (iblk m c 9 t)).2 _ xs1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, H9, H10, ⟨%f0, HS0⟩, HS1, HS2, HS3, HS4, HS5, HS6, HS7⟩
    isplitl [HS0 HS1 HS2 HS3 HS4 HS5 HS6 HS7 Hg]
    · isplitl [HS0 HS1 HS2 HS3 HS4 HS5 HS6 HS7]
      · isplitl [HS0]
        · iexists _; isplitr
          swap
          · unfold owns; iexists _; isplitr
            swap; · iexact HS0
            ipureintro; rfl
          ipureintro; exact pointA_slabs m c t _ _ _ _ _ _ _ _ _ _ _ _ _ _ _ _ _ _ _ _ _ _ _ _ _ _ _ _ _ _ _ _ _ _ _ _ _ _ ((hcond0_0 t).mpr h0) ((hcond0_1 t).mpr h1) (fun h => absurd ((hcond0_2 t).mp h) (by omega)) f0
        isplitl [HS1]
        · iexists _; isplitr
          swap
          · unfold owns; iexists _; isplitr
            swap; · iexact HS1
            ipureintro; rfl
          ipureintro; exact pointA_hid m c t _ _ _ _ _ _ _ _ _ _ _ _ _ _ _ _ _ _ _ _ _ _ _ _ _ _ _ _ _ _ _ _ _ _ _ _ _ _ ((hcond0_0 t).mpr h0) ((hcond0_1 t).mpr h1) (fun h => absurd ((hcond0_2 t).mp h) (by omega)) h1 xs1 (by rw [hz]; exact HidUpTo.zero m c xs1)
        isplitl [HS2]; · iexact HS2
        isplitl [HS3]; · iexact HS3
        isplitl [HS4]; · iexact HS4
        isplitl [HS5]; · iexact HS5
        isplitl [HS6]; · iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · have h0 : ¬t.val % 16 = 0 := by omega
    rw [PhiS_castSucc m c t, PhiS_pos m c _ _ hz]
    by_cases h1 : t.val < 9
    · rw [leaves0_10_idle m c t h1]
      iintro ⟨⟨⟨⟨%xs0, %hp, HS0⟩, ⟨%xs1, %hf, HS1⟩, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runB c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (fun h => absurd ((hcond0_2 t).mp h) (by omega)) (iblk m c 0 t) (iblk m c 1 t) (iblk m c 2 t) (iblk m c 3 t) (iblk m c 4 t) (iblk m c 5 t) (iblk m c 6 t) (iblk m c 7 t) (iblk m c 8 t) (iblk m c 9 t) xs0).2 _ xs1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, H6, H7, H8, H9, H10, HS0, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]
          · iexists _; isplitr
            swap; · iexact HS0
            ipureintro; exact hp
          isplitl [HS1]
          · iexists _; isplitr
            swap
            · unfold owns; iexists _; isplitr
              swap; · iexact HS1
              ipureintro; rfl
            ipureintro; exact pointB_hid m c t _ _ _ _ _ _ _ _ _ _ _ _ _ _ _ _ _ _ _ _ _ _ _ _ _ _ _ _ _ _ _ _ _ _ _ _ _ _ (fun h => h0 ((hcond0_0 t).mp h)) ((hcond0_1 t).mpr h1) (fun h => absurd ((hcond0_2 t).mp h) (by omega)) h1 xs0 hp xs1 hf
          isplitl [HS2]; · iexact HS2
          isplitl [HS3]; · iexact HS3
          isplitl [HS4]; · iexact HS4
          isplitl [HS5]; · iexact HS5
          isplitl [HS6]; · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10
    · have h2 : 9 ≤ t.val := by omega
      rw [leaves0_10_live m c t h2]
      iintro ⟨⟨⟨⟨%xs0, %hp, HS0⟩, ⟨%xs1, %hf, HS1⟩, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runC c (grid0.coords t) _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) xs0 xs1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, H6, H7, H8, H9, ⟨%f10, H10⟩, HS0, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]
          · iexists _; isplitr
            swap; · iexact HS0
            ipureintro; exact hp
          isplitl [HS1]
          · iexists _; isplitr
            swap; · iexact HS1
            ipureintro; exact hf.of_ge m h2
          isplitl [HS2]; · iexact HS2
          isplitl [HS3]; · iexact HS3
          isplitl [HS4]; · iexact HS4
          isplitl [HS5]; · iexact HS5
          isplitl [HS6]; · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact pointC_out m c t _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) h2 xs0 xs1 (hf.of_ge m h2) f10

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨⟨%x0, %h0, HS0⟩, ⟨%x1, %h1, HS1⟩, HS2, HS3, HS4, HS5, HS6, HS7⟩, Hg⟩
  isplitl [HS0 HS1 HS2 HS3 HS4 HS5 HS6 HS7]
  · isplitl [HS0]
    · iexists _; iexact HS0
    isplitl [HS1]
    · iexists _; iexact HS1
    isplitl [HS2]; · iexact HS2
    isplitl [HS3]; · iexact HS3
    isplitl [HS4]; · iexact HS4
    isplitl [HS5]; · iexact HS5
    isplitl [HS6]; · iexact HS6
    iexact HS7
  iexact Hg

theorem hout (c : Dev nD) : (dats m 0 c).Φ (Fin.last cfg0.N) ⊢ Pipeline.ΦA spec0 c :=
  Phi_out m c _ (by rw [Fin.val_last]; have : cfg0.N = 16 := N_0; omega)

/-! ## The run -/

-- the launch theorem's implicit arguments are found by unifying its conclusion with this one, which takes unfolding plain
-- definitions in a metavariable's type
set_option backward.isDefEq.respectTransparency.types false in
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

/-- The arguments end as launched. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: the arguments end as launched, every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

/-- The run with the output's array named. -/
theorem run_blocks : θ_run defs (onTc (τ := τ) (main (F := Ideal))) ⟨m, fun _ => 0, ρ⟩ (fun r => ∀ c : Dev nD,
      r.2.mem ((c.tc : Thread nD τ).loc main_v7) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  have h7 : θ_run defs (onTc (τ := τ) (main (F := Ideal))) ⟨m, fun _ => 0, ρ⟩ (fun r => ∀ c : Dev nD,
      r.2.mem ((c.tc : Thread nD τ).loc main_v7) = (dats m 0 c).arrAt 10 cfg0.N) :=
    (θ_run defs _ _).mono (fun r h c => (h c).1 10) (run_main m ρ)
  (θ_run defs _ _).mono (fun _ h c => ⟨h.1 c, h.2 c⟩) (θ_run_and h7 (unchanged m ρ))

end Cert.KernelIdeal.Gen

end
-- ==== Proof.Value.Final.lean ====
/- The kernel's output array, after the run. -/
module

public import proofs.«01_k».proof.Proof.Body.Frame
public import Idealize.ShloMosaic.Lib.Pipeline.ValueKit.Geometry
public import Idealize.ShloMosaic.Lib.Pipeline.ValueKit.Point

@[expose] public section

set_option maxRecDepth 16384

noncomputable section

namespace Cert.KernelIdeal.Gen

open Idealize.ShloMosaic Idealize.ShloMosaic.TcCoe Idealize.SL.Sem Cert.Spec
open Idealize.ShloMosaic.Pipeline (Dat)

variable (m : (ℓ : Loc nD τ sig) → Buf (Elt Ideal) ℓ)

theorem flush0_10 : ∀ t : Fin cfg0.N, (cfg0.win 10).flush t = true → 9 ≤ t.val :=
  (by decide +kernel : ∀ t : Fin grid0.N, win0_10.flush t = true → 9 ≤ t.val)

/-- The output as an array of the arguments. -/
def outArr (c : Dev nD) : Vec Ideal S32x7168 .bf16 := fun i => mlpOf m c (i 0) (i 1)

theorem final_out (c : Dev nD) : (dats m 0 c).arrAt 10 cfg0.N = outArr m c := by
  refine (dats m 0 c).arrAt_eq_of_covers 10 _ (by decide +kernel) fun t hf y => ?_
  have ht := flush0_10 t hf
  have e := index0_10 t ht
  have e0 : win0_10.index t (0 : Fin 2) = 0 := congrFun e 0
  have e1 : win0_10.index t (1 : Fin 2) = t.val - 9 := congrFun e 1
  have ea : (dats m 0 c).after 10 t = outOf m c t ht := (after0_10 m c t).trans (dif_pos ht)
  rw [ea]
  show outOf m c t ht y = outArr m c (((cfg0.win 10).blk t).view.emb y)
  unfold outOf outArr
  refine congrArg₂ (mlpOf m c) (Fin.ext ?_) (Fin.ext ?_)
  · show (y 0).val = win0_10.index t (0 : Fin 2) * 32 + 1 * (y 0).val
    rw [e0]; omega
  · show 1024 * (t.val - 9) + (y 1).val = win0_10.index t (1 : Fin 2) * 1024 + 1 * (y 1).val
    rw [e1]; omega

end Cert.KernelIdeal.Gen

end
-- ==== Proof.Value.Reference.lean ====
/- What the reference's one program leaves in its output, element by element: the problem's mathematics. -/
module

public import proofs.«01_k».proof.Proof.Value.Spec
public import proofs.«01_k».proof.Proof.Gen.ReferenceIdeal.Value

@[expose] public section

set_option maxRecDepth 16384

noncomputable section

namespace Cert.RefValue

open Idealize.ShloMosaic Cert.ReferenceIdeal Cert.ReferenceIdeal.Gen Cert.Codes Cert.Spec

/-- The gate layer. -/
theorem gate_apply (x : Vec Ideal S32x7168 .bf16) (q : Vec Ideal S2304x3584 .i8) (s m : Vec Ideal S2304x224 .f16) (b : Fin 32) (n : Fin 2304) :
    k0_pay3 (F := Ideal) x q s m (ix2 b n)
      = lin (P := 3584) (G := 224) (D := 7168) rfl rfl (at2 x) (at2 q) (at2 s) (at2 m) b n := by
  pointwise [k0_pay3, k0_pay2]
  simp only [uitofp_lo, sitofp_hi]
  rfl

/-- The block, its gate layer given. -/
theorem block_apply (x : Vec Ideal S32x7168 .bf16) (gq : Fin 2304 → Fin 3584 → BitVec 8) (gs gm : Fin 2304 → Fin 224 → EReal)
    (uq : Vec Ideal S2304x3584 .i8) (us um : Vec Ideal S2304x224 .f16) (dq : Vec Ideal S7168x1152 .i8) (ds dm : Vec Ideal S7168x72 .f16)
    (g : FVec Ideal S32x2304 .f32)
    (hg : ∀ b n, g (ix2 b n) = lin (P := 3584) (G := 224) (D := 7168) rfl rfl (at2 x) gq gs gm b n) (b : Fin 32) (n : Fin 7168) :
    k0_pay1 (F := Ideal) (k0_pay6 (k0_pay2 x) g uq (k0_pay4 us) (k0_pay5 um)) (k0_pay8 dm) (k0_pay9 dq ds dm) (k0_pay10 dq ds) (ix2 b n)
      = mlp (at2 x) gq gs gm (at2 uq) (at2 us) (at2 um) (at2 dq) (at2 ds) (at2 dm) b n := by
  pointwise [k0_pay1, k0_pay2, k0_pay4, k0_pay5, k0_pay6, k0_pay7, k0_pay8, k0_pay9, k0_pay10]
  simp only [hg, uitofp_lo, sitofp_hi]
  unfold mlp lin
  refine congrArg₂ (· + ·) (Finset.sum_congr rfl fun p _ => ?_) (Finset.sum_congr rfl fun p _ => ?_)
  · refine congrArg₂ (· * ·) ?_ rfl
    rfl
  · refine congrArg₂ (· * ·) ?_ rfl
    rfl

/-- The output buffer after the body, from the input blocks. -/
theorem out_apply (x : Vec Ideal S32x7168 .bf16) (gq : Vec Ideal S2304x3584 .i8) (gs gm : Vec Ideal S2304x224 .f16)
    (uq : Vec Ideal S2304x3584 .i8) (us um : Vec Ideal S2304x224 .f16) (dq : Vec Ideal S7168x1152 .i8) (ds dm : Vec Ideal S7168x72 .f16)
    (b : Fin 32) (n : Fin 7168) :
    out0_10 (F := Ideal) x gq gs gm uq us um dq ds dm (ix2 b n)
      = mlp (at2 x) (at2 gq) (at2 gs) (at2 gm) (at2 uq) (at2 us) (at2 um) (at2 dq) (at2 ds) (at2 dm) b n := by
  have h0 : (![0, 0] : Fin 2 → ℕ) = fun _ => 0 := by funext a; fin_cases a <;> rfl
  have e0 (X : Vec Ideal S32x7168 .bf16) : View.ld X r0_0 = X := View.ld_unit_zero h0 _ X
  have e1 (X : Vec Ideal S2304x3584 .i8) : View.ld X r0_1 = X := View.ld_unit_zero h0 _ X
  have e2 (X : Vec Ideal S2304x224 .f16) : View.ld X r0_2 = X := View.ld_unit_zero h0 _ X
  have e3 (X : Vec Ideal S7168x1152 .i8) : View.ld X r0_3 = X := View.ld_unit_zero h0 _ X
  have e4 (X : Vec Ideal S7168x72 .f16) : View.ld X r0_4 = X := View.ld_unit_zero h0 _ X
  unfold out0_10
  rw [e0, e1, e2, e2, e1, e2, e2, e3, e4, e4]
  refine (congrFun (View.canon_unit_zero h0 _ _) _).trans ?_
  exact block_apply x _ _ _ uq us um dq ds dm _ (gate_apply x gq gs gm) b n

end Cert.RefValue

end
-- ==== Proof.Value.RefFinal.lean ====
/- The reference's output array, after its run. -/
module

public import proofs.«01_k».proof.Proof.Value.Reference
public import proofs.«01_k».proof.Proof.Gen.ReferenceIdeal.Value
public import Idealize.ShloMosaic.Lib.Pipeline.ValueKit.Geometry
public import Idealize.ShloMosaic.Lib.Pipeline.ValueKit.Point

@[expose] public section

set_option maxRecDepth 16384

noncomputable section

namespace Cert.RefValue

open Cert.ReferenceIdeal Cert.ReferenceIdeal.Gen Idealize.ShloMosaic Idealize.ShloMosaic.TcCoe Idealize.SL.Sem Cert.Spec

variable (m : (ℓ : Loc nD τ sig) → Buf (Elt Ideal) ℓ)

def argX (c : Dev nD) : Vec Ideal S32x7168 .bf16 :=
  shapeCast S32x7168 (m ((c : Thread nD τ).loc main_arg0) : Vec Ideal S32x1x7168 .bf16) shapeCasts_S32x1x7168_S32x7168
abbrev argGq (c : Dev nD) : Vec Ideal S2304x3584 .i8 := m ((c : Thread nD τ).loc main_arg1)
abbrev argGs (c : Dev nD) : Vec Ideal S2304x224 .f16 := m ((c : Thread nD τ).loc main_arg2)
abbrev argGm (c : Dev nD) : Vec Ideal S2304x224 .f16 := m ((c : Thread nD τ).loc main_arg3)
abbrev argUq (c : Dev nD) : Vec Ideal S2304x3584 .i8 := m ((c : Thread nD τ).loc main_arg4)
abbrev argUs (c : Dev nD) : Vec Ideal S2304x224 .f16 := m ((c : Thread nD τ).loc main_arg5)
abbrev argUm (c : Dev nD) : Vec Ideal S2304x224 .f16 := m ((c : Thread nD τ).loc main_arg6)
abbrev argDq (c : Dev nD) : Vec Ideal S7168x1152 .i8 := m ((c : Thread nD τ).loc main_arg7)
abbrev argDs (c : Dev nD) : Vec Ideal S7168x72 .f16 := m ((c : Thread nD τ).loc main_arg8)
abbrev argDm (c : Dev nD) : Vec Ideal S7168x72 .f16 := m ((c : Thread nD τ).loc main_arg9)

theorem V_x (c : Dev nD) : V m c main_v0 = argX m c := by
  entry_read; rfl

theorem index_0 : ∀ t : Fin cfg0.N, win0_0.index t = ![0, 0] :=
  (by decide +kernel : ∀ t : Fin grid0.N, win0_0.index t = ![0, 0])
theorem index_1 : ∀ t : Fin cfg0.N, win0_1.index t = ![0, 0] :=
  (by decide +kernel : ∀ t : Fin grid0.N, win0_1.index t = ![0, 0])
theorem index_2 : ∀ t : Fin cfg0.N, win0_2.index t = ![0, 0] :=
  (by decide +kernel : ∀ t : Fin grid0.N, win0_2.index t = ![0, 0])
theorem index_3 : ∀ t : Fin cfg0.N, win0_3.index t = ![0, 0] :=
  (by decide +kernel : ∀ t : Fin grid0.N, win0_3.index t = ![0, 0])
theorem index_4 : ∀ t : Fin cfg0.N, win0_4.index t = ![0, 0] :=
  (by decide +kernel : ∀ t : Fin grid0.N, win0_4.index t = ![0, 0])
theorem index_5 : ∀ t : Fin cfg0.N, win0_5.index t = ![0, 0] :=
  (by decide +kernel : ∀ t : Fin grid0.N, win0_5.index t = ![0, 0])
theorem index_6 : ∀ t : Fin cfg0.N, win0_6.index t = ![0, 0] :=
  (by decide +kernel : ∀ t : Fin grid0.N, win0_6.index t = ![0, 0])
theorem index_7 : ∀ t : Fin cfg0.N, win0_7.index t = ![0, 0] :=
  (by decide +kernel : ∀ t : Fin grid0.N, win0_7.index t = ![0, 0])
theorem index_8 : ∀ t : Fin cfg0.N, win0_8.index t = ![0, 0] :=
  (by decide +kernel : ∀ t : Fin grid0.N, win0_8.index t = ![0, 0])
theorem index_9 : ∀ t : Fin cfg0.N, win0_9.index t = ![0, 0] :=
  (by decide +kernel : ∀ t : Fin grid0.N, win0_9.index t = ![0, 0])
theorem index_10 : ∀ t : Fin cfg0.N, win0_10.index t = ![0, 0] :=
  (by decide +kernel : ∀ t : Fin grid0.N, win0_10.index t = ![0, 0])

/-! Each window is its whole array. -/

theorem block_0 (c : Dev nD) (t : Fin cfg0.N) : (iblk m c 0 t : Vec Ideal S32x7168 .bf16) = argX m c := by
  funext z
  have e0 : win0_0.index t (0 : Fin 2) = 0 := congrFun (index_0 t) 0
  have e1 : win0_0.index t (1 : Fin 2) = 0 := congrFun (index_0 t) 1
  show V m c main_v0 (((cfg0.win 0).blk t).view.emb z) = _
  rw [V_x]
  refine congrArg (argX m c) (funext fun a => Fin.ext ?_)
  match a with
  | ⟨0, _⟩ => show win0_0.index t (0 : Fin 2) * 32 + 1 * (z 0).val = (z 0).val; omega
  | ⟨1, _⟩ => show win0_0.index t (1 : Fin 2) * 7168 + 1 * (z 1).val = (z 1).val; omega

theorem block_1 (c : Dev nD) (t : Fin cfg0.N) : (iblk m c 1 t : Vec Ideal S2304x3584 .i8) = argGq m c := by
  funext z
  have e0 : win0_1.index t (0 : Fin 2) = 0 := congrFun (index_1 t) 0
  have e1 : win0_1.index t (1 : Fin 2) = 0 := congrFun (index_1 t) 1
  show V m c main_arg1 (((cfg0.win 1).blk t).view.emb z) = _
  rw [V_main_arg1]
  refine congrArg (argGq m c) (funext fun a => Fin.ext ?_)
  match a with
  | ⟨0, _⟩ => show win0_1.index t (0 : Fin 2) * 2304 + 1 * (z 0).val = (z 0).val; omega
  | ⟨1, _⟩ => show win0_1.index t (1 : Fin 2) * 3584 + 1 * (z 1).val = (z 1).val; omega

theorem block_2 (c : Dev nD) (t : Fin cfg0.N) : (iblk m c 2 t : Vec Ideal S2304x224 .f16) = argGs m c := by
  funext z
  have e0 : win0_2.index t (0 : Fin 2) = 0 := congrFun (index_2 t) 0
  have e1 : win0_2.index t (1 : Fin 2) = 0 := congrFun (index_2 t) 1
  show V m c main_arg2 (((cfg0.win 2).blk t).view.emb z) = _
  rw [V_main_arg2]
  refine congrArg (argGs m c) (funext fun a => Fin.ext ?_)
  match a with
  | ⟨0, _⟩ => show win0_2.index t (0 : Fin 2) * 2304 + 1 * (z 0).val = (z 0).val; omega
  | ⟨1, _⟩ => show win0_2.index t (1 : Fin 2) * 224 + 1 * (z 1).val = (z 1).val; omega

theorem block_3 (c : Dev nD) (t : Fin cfg0.N) : (iblk m c 3 t : Vec Ideal S2304x224 .f16) = argGm m c := by
  funext z
  have e0 : win0_3.index t (0 : Fin 2) = 0 := congrFun (index_3 t) 0
  have e1 : win0_3.index t (1 : Fin 2) = 0 := congrFun (index_3 t) 1
  show V m c main_arg3 (((cfg0.win 3).blk t).view.emb z) = _
  rw [V_main_arg3]
  refine congrArg (argGm m c) (funext fun a => Fin.ext ?_)
  match a with
  | ⟨0, _⟩ => show win0_3.index t (0 : Fin 2) * 2304 + 1 * (z 0).val = (z 0).val; omega
  | ⟨1, _⟩ => show win0_3.index t (1 : Fin 2) * 224 + 1 * (z 1).val = (z 1).val; omega

theorem block_4 (c : Dev nD) (t : Fin cfg0.N) : (iblk m c 4 t : Vec Ideal S2304x3584 .i8) = argUq m c := by
  funext z
  have e0 : win0_4.index t (0 : Fin 2) = 0 := congrFun (index_4 t) 0
  have e1 : win0_4.index t (1 : Fin 2) = 0 := congrFun (index_4 t) 1
  show V m c main_arg4 (((cfg0.win 4).blk t).view.emb z) = _
  rw [V_main_arg4]
  refine congrArg (argUq m c) (funext fun a => Fin.ext ?_)
  match a with
  | ⟨0, _⟩ => show win0_4.index t (0 : Fin 2) * 2304 + 1 * (z 0).val = (z 0).val; omega
  | ⟨1, _⟩ => show win0_4.index t (1 : Fin 2) * 3584 + 1 * (z 1).val = (z 1).val; omega

theorem block_5 (c : Dev nD) (t : Fin cfg0.N) : (iblk m c 5 t : Vec Ideal S2304x224 .f16) = argUs m c := by
  funext z
  have e0 : win0_5.index t (0 : Fin 2) = 0 := congrFun (index_5 t) 0
  have e1 : win0_5.index t (1 : Fin 2) = 0 := congrFun (index_5 t) 1
  show V m c main_arg5 (((cfg0.win 5).blk t).view.emb z) = _
  rw [V_main_arg5]
  refine congrArg (argUs m c) (funext fun a => Fin.ext ?_)
  match a with
  | ⟨0, _⟩ => show win0_5.index t (0 : Fin 2) * 2304 + 1 * (z 0).val = (z 0).val; omega
  | ⟨1, _⟩ => show win0_5.index t (1 : Fin 2) * 224 + 1 * (z 1).val = (z 1).val; omega

theorem block_6 (c : Dev nD) (t : Fin cfg0.N) : (iblk m c 6 t : Vec Ideal S2304x224 .f16) = argUm m c := by
  funext z
  have e0 : win0_6.index t (0 : Fin 2) = 0 := congrFun (index_6 t) 0
  have e1 : win0_6.index t (1 : Fin 2) = 0 := congrFun (index_6 t) 1
  show V m c main_arg6 (((cfg0.win 6).blk t).view.emb z) = _
  rw [V_main_arg6]
  refine congrArg (argUm m c) (funext fun a => Fin.ext ?_)
  match a with
  | ⟨0, _⟩ => show win0_6.index t (0 : Fin 2) * 2304 + 1 * (z 0).val = (z 0).val; omega
  | ⟨1, _⟩ => show win0_6.index t (1 : Fin 2) * 224 + 1 * (z 1).val = (z 1).val; omega

theorem block_7 (c : Dev nD) (t : Fin cfg0.N) : (iblk m c 7 t : Vec Ideal S7168x1152 .i8) = argDq m c := by
  funext z
  have e0 : win0_7.index t (0 : Fin 2) = 0 := congrFun (index_7 t) 0
  have e1 : win0_7.index t (1 : Fin 2) = 0 := congrFun (index_7 t) 1
  show V m c main_arg7 (((cfg0.win 7).blk t).view.emb z) = _
  rw [V_main_arg7]
  refine congrArg (argDq m c) (funext fun a => Fin.ext ?_)
  match a with
  | ⟨0, _⟩ => show win0_7.index t (0 : Fin 2) * 7168 + 1 * (z 0).val = (z 0).val; omega
  | ⟨1, _⟩ => show win0_7.index t (1 : Fin 2) * 1152 + 1 * (z 1).val = (z 1).val; omega

theorem block_8 (c : Dev nD) (t : Fin cfg0.N) : (iblk m c 8 t : Vec Ideal S7168x72 .f16) = argDs m c := by
  funext z
  have e0 : win0_8.index t (0 : Fin 2) = 0 := congrFun (index_8 t) 0
  have e1 : win0_8.index t (1 : Fin 2) = 0 := congrFun (index_8 t) 1
  show V m c main_arg8 (((cfg0.win 8).blk t).view.emb z) = _
  rw [V_main_arg8]
  refine congrArg (argDs m c) (funext fun a => Fin.ext ?_)
  match a with
  | ⟨0, _⟩ => show win0_8.index t (0 : Fin 2) * 7168 + 1 * (z 0).val = (z 0).val; omega
  | ⟨1, _⟩ => show win0_8.index t (1 : Fin 2) * 72 + 1 * (z 1).val = (z 1).val; omega

theorem block_9 (c : Dev nD) (t : Fin cfg0.N) : (iblk m c 9 t : Vec Ideal S7168x72 .f16) = argDm m c := by
  funext z
  have e0 : win0_9.index t (0 : Fin 2) = 0 := congrFun (index_9 t) 0
  have e1 : win0_9.index t (1 : Fin 2) = 0 := congrFun (index_9 t) 1
  show V m c main_arg9 (((cfg0.win 9).blk t).view.emb z) = _
  rw [V_main_arg9]
  refine congrArg (argDm m c) (funext fun a => Fin.ext ?_)
  match a with
  | ⟨0, _⟩ => show win0_9.index t (0 : Fin 2) * 7168 + 1 * (z 0).val = (z 0).val; omega
  | ⟨1, _⟩ => show win0_9.index t (1 : Fin 2) * 72 + 1 * (z 1).val = (z 1).val; omega

/-- The output as an array of the arguments. -/
def outArr (c : Dev nD) : Vec Ideal S32x7168 .bf16 := fun i =>
  mlp (at2 (argX m c)) (at2 (argGq m c)) (at2 (argGs m c)) (at2 (argGm m c)) (at2 (argUq m c)) (at2 (argUs m c)) (at2 (argUm m c)) (at2 (argDq m c)) (at2 (argDs m c)) (at2 (argDm m c)) (i 0) (i 1)

/-- The body's output at whole blocks. -/
theorem out_eq (c : Dev nD) : (out0_10 (F := Ideal) (argX m c) (argGq m c) (argGs m c) (argGm m c) (argUq m c) (argUs m c) (argUm m c) (argDq m c) (argDs m c) (argDm m c) : Vec Ideal S32x7168 .bf16) = outArr m c := by
  funext y
  refine (congrArg (out0_10 (F := Ideal) (argX m c) (argGq m c) (argGs m c) (argGm m c) (argUq m c) (argUs m c) (argUm m c) (argDq m c) (argDs m c) (argDm m c)) (ValueIdx.eq_ix2 (n0 := 32) (n1 := 7168) y)).trans ?_
  exact out_apply (argX m c) (argGq m c) (argGs m c) (argGm m c) (argUq m c) (argUs m c) (argUm m c) (argDq m c) (argDs m c) (argDm m c) (y 0) (y 1)

theorem after_eq (c : Dev nD) (t : Fin cfg0.N) : (dats m 0 c).after 10 t = outArr m c := by
  rw [after0_10, block_0, block_1, block_2, block_3, block_4, block_5, block_6, block_7, block_8, block_9, out_eq]

theorem final_out (c : Dev nD) : (dats m 0 c).arrAt 10 cfg0.N = outArr m c := by
  refine (dats m 0 c).arrAt_eq_of_covers 10 _ (by decide +kernel) fun t hf y => ?_
  have e0 : win0_10.index t (0 : Fin 2) = 0 := congrFun (index_10 t) 0
  have e1 : win0_10.index t (1 : Fin 2) = 0 := congrFun (index_10 t) 1
  rw [after_eq]
  show outArr m c y = outArr m c (((cfg0.win 10).blk t).view.emb y)
  refine congrArg (outArr m c) (funext fun a => Fin.ext ?_)
  match a with
  | ⟨0, _⟩ => show (y 0).val = win0_10.index t (0 : Fin 2) * 32 + 1 * (y 0).val; rw [e0]; omega
  | ⟨1, _⟩ => show (y 1).val = win0_10.index t (1 : Fin 2) * 7168 + 1 * (y 1).val; rw [e1]; omega

end Cert.RefValue

end
-- ==== Proof.KernelFrame.Basic.lean ====
/- The kernel's frame at any values: what the runs of its body share. The branch conditions in closed form over the grid's points, and
   the staging and scratch buffers a point works on. -/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- The frame from a run to the end of the pipeline: for proof data whose arrays are those found when the region is entered, a run that
    leaves the input arrays and every other unscoped buffer as they were leaves the arguments as launched. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 7 rfl).trans ((hA c 7).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's branch conditions -/

/-- The condition of the body's conditional 0 (`k0_h1`), from the grid coordinates. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's conditional 1 (`k0_h2`), from the grid coordinates. -/
abbrev cond0_1 (i : grid0.Coords) : Prop := k0_cond2 i = 1#1
/-- It holds at the points before point 9 — decided over the grid. -/
theorem hcond0_1 : ∀ t : Fin cfg0.N, cond0_1 (grid0.coords t) ↔ t.val < 9 :=
  (by decide +kernel : ∀ t : Fin grid0.N, cond0_1 (grid0.coords t) ↔ t.val < 9)

/-- The condition of the body's conditional 2 (`k0_h3`), from the grid coordinates. -/
abbrev cond0_2 (i : grid0.Coords) : Prop := k0_cond3 i = 1#1
/-- It holds at the points from point 9 on — decided over the grid. -/
theorem hcond0_2 : ∀ t : Fin cfg0.N, cond0_2 (grid0.coords t) ↔ 9 ≤ t.val :=
  (by decide +kernel : ∀ t : Fin grid0.N, cond0_2 (grid0.coords t) ↔ 9 ≤ t.val)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! ## The staging and scratch buffers a point works on -/

/-- Each window's current staging memref at point `t`, spelled as the pipeline passes it (`bodyAt0`), and its wholeness. -/
abbrev ms0_0 (t : Fin cfg0.N) : Memref sig .tc .vmem S32x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3584 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S224x256 .f16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S224x256 .f16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3584 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S224x256 .f16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S224x256 .f16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1152 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S72x1024 .f16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S72x1024 .f16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S32x1024 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S28x32x256 .bf16 := Memref.whole cc0_scratch0
abbrev scM0_1 : Memref sig .tc .vmem S9x32x256 .bf16 := Memref.whole cc0_scratch1
abbrev scM0_2 : Memref sig .tc .vmem S224x256 .f32 := Memref.whole cc0_scratch2
abbrev scM0_3 : Memref sig .tc .vmem S224x256 .f32 := Memref.whole cc0_scratch3
abbrev scM0_4 : Memref sig .tc .vmem S224x256 .f32 := Memref.whole cc0_scratch4
abbrev scM0_5 : Memref sig .tc .vmem S224x256 .f32 := Memref.whole cc0_scratch5
abbrev scM0_6 : Memref sig .tc .vmem S72x1024 .f32 := Memref.whole cc0_scratch6
abbrev scM0_7 : Memref sig .tc .vmem S72x1024 .f32 := Memref.whole cc0_scratch7
/-- The scratch `arg12` the kernel carries between points, as a view: what it holds is stated through it. -/
abbrev VS0_0 : View sig .tc .vmem S28x32x256 .bf16 := scM0_0.view

/-- The invariant at entry, with the scratch operands owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.Kernel.Gen

end
-- ==== Proof.KernelFrame.RunA.lean ====
/- The kernel's frame at any values: the run of the body at the first point. -/
module

public import proofs.«01_k».proof.Proof.KernelFrame.Basic

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 6040000 in
/-- The body at the first point, on whole staging buffers: it runs to the end, has the inputs as they were, leaves the scratch of the permuted activations with the pieces `LS0` written,
    and leaves the output's buffer and the other scratch at some contents, of which nothing is said. -/
noncomputable def kernelRun0_A (c : Dev nD) (i : grid0.Coords) (arg1 : Memref sig .tc .vmem S32x7168 .bf16) (harg1 : arg1.IsWhole) (arg2 : Memref sig .tc .vmem S256x3584 .i8) (harg2 : arg2.IsWhole) (arg3 : Memref sig .tc .vmem S224x256 .f16) (harg3 : arg3.IsWhole) (arg4 : Memref sig .tc .vmem S224x256 .f16) (harg4 : arg4.IsWhole) (arg5 : Memref sig .tc .vmem S256x3584 .i8) (harg5 : arg5.IsWhole) (arg6 : Memref sig .tc .vmem S224x256 .f16) (harg6 : arg6.IsWhole) (arg7 : Memref sig .tc .vmem S224x256 .f16) (harg7 : arg7.IsWhole) (arg8 : Memref sig .tc .vmem S1024x1152 .i8) (harg8 : arg8.IsWhole) (arg9 : Memref sig .tc .vmem S72x1024 .f16) (harg9 : arg9.IsWhole) (arg10 : Memref sig .tc .vmem S72x1024 .f16) (harg10 : arg10.IsWhole) (arg11 : Memref sig .tc .vmem S32x1024 .bf16) (harg11 : arg11.IsWhole) (arg12 : Memref sig .tc .vmem S28x32x256 .bf16) (harg12 : arg12.IsWhole) (arg13 : Memref sig .tc .vmem S9x32x256 .bf16) (harg13 : arg13.IsWhole) (arg14 : Memref sig .tc .vmem S224x256 .f32) (harg14 : arg14.IsWhole) (arg15 : Memref sig .tc .vmem S224x256 .f32) (harg15 : arg15.IsWhole) (arg16 : Memref sig .tc .vmem S224x256 .f32) (harg16 : arg16.IsWhole) (arg17 : Memref sig .tc .vmem S224x256 .f32) (harg17 : arg17.IsWhole) (arg18 : Memref sig .tc .vmem S72x1024 .f32) (harg18 : arg18.IsWhole) (arg19 : Memref sig .tc .vmem S72x1024 .f32) (harg19 : arg19.IsWhole) (hc0 : cond0_0 i) (hc1 : cond0_1 i) (hc2 : ¬cond0_2 i)
    (x0 : Vec F S32x7168 .bf16) (x1 : Vec F S256x3584 .i8) (x2 : Vec F S224x256 .f16) (x3 : Vec F S224x256 .f16) (x4 : Vec F S256x3584 .i8) (x5 : Vec F S224x256 .f16) (x6 : Vec F S224x256 .f16) (x7 : Vec F S1024x1152 .i8) (x8 : Vec F S72x1024 .f16) (x9 : Vec F S72x1024 .f16) :
    { LS0 : List (View.Piece (Elt F) S28x32x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ f, arg12.view.loc (c : Thread nD τ) ↦[arg12.view.set]{fullShare} arg12.view.writes (Elt F) f LS0) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_q4_swiglu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0_q4_swiglu_eq_skeleton]; unfold cc0_q4_swiglu_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part171_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part172_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part173_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.Kernel.Gen

end
-- ==== Proof.KernelFrame.RunB.lean ====
/- The kernel's frame at any values: the run of the body at points 1 to 8. -/
module

public import proofs.«01_k».proof.Proof.KernelFrame.RunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 5516000 in
/-- The body at points 1 to 8, on whole staging buffers: it runs to the end, has the inputs as they were, leaves the permuted activations as they were,
    and leaves the output's buffer and the other scratch at some contents, of which nothing is said. -/
noncomputable def kernelRun0_B (c : Dev nD) (i : grid0.Coords) (arg1 : Memref sig .tc .vmem S32x7168 .bf16) (harg1 : arg1.IsWhole) (arg2 : Memref sig .tc .vmem S256x3584 .i8) (harg2 : arg2.IsWhole) (arg3 : Memref sig .tc .vmem S224x256 .f16) (harg3 : arg3.IsWhole) (arg4 : Memref sig .tc .vmem S224x256 .f16) (harg4 : arg4.IsWhole) (arg5 : Memref sig .tc .vmem S256x3584 .i8) (harg5 : arg5.IsWhole) (arg6 : Memref sig .tc .vmem S224x256 .f16) (harg6 : arg6.IsWhole) (arg7 : Memref sig .tc .vmem S224x256 .f16) (harg7 : arg7.IsWhole) (arg8 : Memref sig .tc .vmem S1024x1152 .i8) (harg8 : arg8.IsWhole) (arg9 : Memref sig .tc .vmem S72x1024 .f16) (harg9 : arg9.IsWhole) (arg10 : Memref sig .tc .vmem S72x1024 .f16) (harg10 : arg10.IsWhole) (arg11 : Memref sig .tc .vmem S32x1024 .bf16) (harg11 : arg11.IsWhole) (arg12 : Memref sig .tc .vmem S28x32x256 .bf16) (harg12 : arg12.IsWhole) (arg13 : Memref sig .tc .vmem S9x32x256 .bf16) (harg13 : arg13.IsWhole) (arg14 : Memref sig .tc .vmem S224x256 .f32) (harg14 : arg14.IsWhole) (arg15 : Memref sig .tc .vmem S224x256 .f32) (harg15 : arg15.IsWhole) (arg16 : Memref sig .tc .vmem S224x256 .f32) (harg16 : arg16.IsWhole) (arg17 : Memref sig .tc .vmem S224x256 .f32) (harg17 : arg17.IsWhole) (arg18 : Memref sig .tc .vmem S72x1024 .f32) (harg18 : arg18.IsWhole) (arg19 : Memref sig .tc .vmem S72x1024 .f32) (harg19 : arg19.IsWhole) (hc0 : ¬cond0_0 i) (hc1 : cond0_1 i) (hc2 : ¬cond0_2 i)
    (x0 : Vec F S32x7168 .bf16) (x1 : Vec F S256x3584 .i8) (x2 : Vec F S224x256 .f16) (x3 : Vec F S224x256 .f16) (x4 : Vec F S256x3584 .i8) (x5 : Vec F S224x256 .f16) (x6 : Vec F S224x256 .f16) (x7 : Vec F S1024x1152 .i8) (x8 : Vec F S72x1024 .f16) (x9 : Vec F S72x1024 .f16) (xs0 : Vec F S28x32x256 .bf16) :
    { LS0 : List (View.Piece (Elt F) S28x32x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_q4_swiglu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], fun E K => ?run⟩
  case run =>
    simp only [cc0_q4_swiglu_eq_skeleton]; unfold cc0_q4_swiglu_skel
    simp only [k0_part171_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part172_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part173_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [HS0]
    · iexists _; isplitr; · ipureintro; exact harg12.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.Kernel.Gen

end
-- ==== Proof.KernelFrame.RunC.lean ====
/- The kernel's frame at any values: the run of the body at points 9 to 15. -/
module

public import proofs.«01_k».proof.Proof.KernelFrame.RunB

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3572000 in
/-- The body at points 9 to 15, on whole staging buffers: it runs to the end, has the inputs as they were, leaves the permuted activations as they were,
    and leaves the output's buffer and the other scratch at some contents, of which nothing is said. -/
noncomputable def kernelRun0_C (c : Dev nD) (i : grid0.Coords) (arg1 : Memref sig .tc .vmem S32x7168 .bf16) (harg1 : arg1.IsWhole) (arg2 : Memref sig .tc .vmem S256x3584 .i8) (harg2 : arg2.IsWhole) (arg3 : Memref sig .tc .vmem S224x256 .f16) (harg3 : arg3.IsWhole) (arg4 : Memref sig .tc .vmem S224x256 .f16) (harg4 : arg4.IsWhole) (arg5 : Memref sig .tc .vmem S256x3584 .i8) (harg5 : arg5.IsWhole) (arg6 : Memref sig .tc .vmem S224x256 .f16) (harg6 : arg6.IsWhole) (arg7 : Memref sig .tc .vmem S224x256 .f16) (harg7 : arg7.IsWhole) (arg8 : Memref sig .tc .vmem S1024x1152 .i8) (harg8 : arg8.IsWhole) (arg9 : Memref sig .tc .vmem S72x1024 .f16) (harg9 : arg9.IsWhole) (arg10 : Memref sig .tc .vmem S72x1024 .f16) (harg10 : arg10.IsWhole) (arg11 : Memref sig .tc .vmem S32x1024 .bf16) (harg11 : arg11.IsWhole) (arg12 : Memref sig .tc .vmem S28x32x256 .bf16) (harg12 : arg12.IsWhole) (arg13 : Memref sig .tc .vmem S9x32x256 .bf16) (harg13 : arg13.IsWhole) (arg14 : Memref sig .tc .vmem S224x256 .f32) (harg14 : arg14.IsWhole) (arg15 : Memref sig .tc .vmem S224x256 .f32) (harg15 : arg15.IsWhole) (arg16 : Memref sig .tc .vmem S224x256 .f32) (harg16 : arg16.IsWhole) (arg17 : Memref sig .tc .vmem S224x256 .f32) (harg17 : arg17.IsWhole) (arg18 : Memref sig .tc .vmem S72x1024 .f32) (harg18 : arg18.IsWhole) (arg19 : Memref sig .tc .vmem S72x1024 .f32) (harg19 : arg19.IsWhole) (hc0 : ¬cond0_0 i) (hc1 : ¬cond0_1 i) (hc2 : cond0_2 i)
    (x0 : Vec F S32x7168 .bf16) (x1 : Vec F S256x3584 .i8) (x2 : Vec F S224x256 .f16) (x3 : Vec F S224x256 .f16) (x4 : Vec F S256x3584 .i8) (x5 : Vec F S224x256 .f16) (x6 : Vec F S224x256 .f16) (x7 : Vec F S1024x1152 .i8) (x8 : Vec F S72x1024 .f16) (x9 : Vec F S72x1024 .f16) (xs0 : Vec F S28x32x256 .bf16) :
    { LS0 : List (View.Piece (Elt F) S28x32x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_q4_swiglu i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨[], fun E K => ?run⟩
  case run =>
    simp only [cc0_q4_swiglu_eq_skeleton]; unfold cc0_q4_swiglu_skel
    simp only [k0_part277_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part278_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [HS0]
    · iexists _; isplitr; · ipureintro; exact harg12.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.Kernel.Gen

end
-- ==== Proof.KernelFrame.Frame.lean ====
/- The kernel's frame at any values: it runs to the end and leaves its arguments as they were. The scratch of the permuted activations
   is carried between points at what the first point left; of the output and of the other scratch nothing is said. -/
module

public import proofs.«01_k».proof.Proof.KernelFrame.RunC
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg12`, which the kernel carries between points, cover it: 28 pieces of `S1x32x256` tiling it. -/
theorem scover0_A_0 (c : Dev nD) (i : grid0.Coords) (arg1 : Memref sig .tc .vmem S32x7168 .bf16) (harg1 : arg1.IsWhole) (arg2 : Memref sig .tc .vmem S256x3584 .i8) (harg2 : arg2.IsWhole) (arg3 : Memref sig .tc .vmem S224x256 .f16) (harg3 : arg3.IsWhole) (arg4 : Memref sig .tc .vmem S224x256 .f16) (harg4 : arg4.IsWhole) (arg5 : Memref sig .tc .vmem S256x3584 .i8) (harg5 : arg5.IsWhole) (arg6 : Memref sig .tc .vmem S224x256 .f16) (harg6 : arg6.IsWhole) (arg7 : Memref sig .tc .vmem S224x256 .f16) (harg7 : arg7.IsWhole) (arg8 : Memref sig .tc .vmem S1024x1152 .i8) (harg8 : arg8.IsWhole) (arg9 : Memref sig .tc .vmem S72x1024 .f16) (harg9 : arg9.IsWhole) (arg10 : Memref sig .tc .vmem S72x1024 .f16) (harg10 : arg10.IsWhole) (arg11 : Memref sig .tc .vmem S32x1024 .bf16) (harg11 : arg11.IsWhole) (arg12 : Memref sig .tc .vmem S28x32x256 .bf16) (harg12 : arg12.IsWhole) (arg13 : Memref sig .tc .vmem S9x32x256 .bf16) (harg13 : arg13.IsWhole) (arg14 : Memref sig .tc .vmem S224x256 .f32) (harg14 : arg14.IsWhole) (arg15 : Memref sig .tc .vmem S224x256 .f32) (harg15 : arg15.IsWhole) (arg16 : Memref sig .tc .vmem S224x256 .f32) (harg16 : arg16.IsWhole) (arg17 : Memref sig .tc .vmem S224x256 .f32) (harg17 : arg17.IsWhole) (arg18 : Memref sig .tc .vmem S72x1024 .f32) (harg18 : arg18.IsWhole) (arg19 : Memref sig .tc .vmem S72x1024 .f32) (harg19 : arg19.IsWhole) (hc0 : cond0_0 i) (hc1 : cond0_1 i) (hc2 : ¬cond0_2 i)
    (x0 : Vec F S32x7168 .bf16) (x1 : Vec F S256x3584 .i8) (x2 : Vec F S224x256 .f16) (x3 : Vec F S224x256 .f16) (x4 : Vec F S256x3584 .i8) (x5 : Vec F S224x256 .f16) (x6 : Vec F S224x256 .f16) (x7 : Vec F S1024x1152 .i8) (x8 : Vec F S72x1024 .f16) (x9 : Vec F S72x1024 .f16) (y : S28x32x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).1 S1x32x256.size (by sl_kernel_rfl) y

/-- What case A leaves in scratch `arg12`: its pieces read back over junk. -/
def sout0_A_0 (c : Dev nD) (i : grid0.Coords) (arg1 : Memref sig .tc .vmem S32x7168 .bf16) (harg1 : arg1.IsWhole) (arg2 : Memref sig .tc .vmem S256x3584 .i8) (harg2 : arg2.IsWhole) (arg3 : Memref sig .tc .vmem S224x256 .f16) (harg3 : arg3.IsWhole) (arg4 : Memref sig .tc .vmem S224x256 .f16) (harg4 : arg4.IsWhole) (arg5 : Memref sig .tc .vmem S256x3584 .i8) (harg5 : arg5.IsWhole) (arg6 : Memref sig .tc .vmem S224x256 .f16) (harg6 : arg6.IsWhole) (arg7 : Memref sig .tc .vmem S224x256 .f16) (harg7 : arg7.IsWhole) (arg8 : Memref sig .tc .vmem S1024x1152 .i8) (harg8 : arg8.IsWhole) (arg9 : Memref sig .tc .vmem S72x1024 .f16) (harg9 : arg9.IsWhole) (arg10 : Memref sig .tc .vmem S72x1024 .f16) (harg10 : arg10.IsWhole) (arg11 : Memref sig .tc .vmem S32x1024 .bf16) (harg11 : arg11.IsWhole) (arg12 : Memref sig .tc .vmem S28x32x256 .bf16) (harg12 : arg12.IsWhole) (arg13 : Memref sig .tc .vmem S9x32x256 .bf16) (harg13 : arg13.IsWhole) (arg14 : Memref sig .tc .vmem S224x256 .f32) (harg14 : arg14.IsWhole) (arg15 : Memref sig .tc .vmem S224x256 .f32) (harg15 : arg15.IsWhole) (arg16 : Memref sig .tc .vmem S224x256 .f32) (harg16 : arg16.IsWhole) (arg17 : Memref sig .tc .vmem S224x256 .f32) (harg17 : arg17.IsWhole) (arg18 : Memref sig .tc .vmem S72x1024 .f32) (harg18 : arg18.IsWhole) (arg19 : Memref sig .tc .vmem S72x1024 .f32) (harg19 : arg19.IsWhole) (hc0 : cond0_0 i) (hc1 : cond0_1 i) (hc2 : ¬cond0_2 i)
    (x0 : Vec F S32x7168 .bf16) (x1 : Vec F S256x3584 .i8) (x2 : Vec F S224x256 .f16) (x3 : Vec F S224x256 .f16) (x4 : Vec F S256x3584 .i8) (x5 : Vec F S224x256 .f16) (x6 : Vec F S224x256 .f16) (x7 : Vec F S1024x1152 .i8) (x8 : Vec F S72x1024 .f16) (x9 : Vec F S72x1024 .f16) : Vec F S28x32x256 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9).1)

/-- Case B stores nothing into scratch `arg12`: it holds what the point before left. -/
def sout0_B_0 (c : Dev nD) (i : grid0.Coords) (arg1 : Memref sig .tc .vmem S32x7168 .bf16) (harg1 : arg1.IsWhole) (arg2 : Memref sig .tc .vmem S256x3584 .i8) (harg2 : arg2.IsWhole) (arg3 : Memref sig .tc .vmem S224x256 .f16) (harg3 : arg3.IsWhole) (arg4 : Memref sig .tc .vmem S224x256 .f16) (harg4 : arg4.IsWhole) (arg5 : Memref sig .tc .vmem S256x3584 .i8) (harg5 : arg5.IsWhole) (arg6 : Memref sig .tc .vmem S224x256 .f16) (harg6 : arg6.IsWhole) (arg7 : Memref sig .tc .vmem S224x256 .f16) (harg7 : arg7.IsWhole) (arg8 : Memref sig .tc .vmem S1024x1152 .i8) (harg8 : arg8.IsWhole) (arg9 : Memref sig .tc .vmem S72x1024 .f16) (harg9 : arg9.IsWhole) (arg10 : Memref sig .tc .vmem S72x1024 .f16) (harg10 : arg10.IsWhole) (arg11 : Memref sig .tc .vmem S32x1024 .bf16) (harg11 : arg11.IsWhole) (arg12 : Memref sig .tc .vmem S28x32x256 .bf16) (harg12 : arg12.IsWhole) (arg13 : Memref sig .tc .vmem S9x32x256 .bf16) (harg13 : arg13.IsWhole) (arg14 : Memref sig .tc .vmem S224x256 .f32) (harg14 : arg14.IsWhole) (arg15 : Memref sig .tc .vmem S224x256 .f32) (harg15 : arg15.IsWhole) (arg16 : Memref sig .tc .vmem S224x256 .f32) (harg16 : arg16.IsWhole) (arg17 : Memref sig .tc .vmem S224x256 .f32) (harg17 : arg17.IsWhole) (arg18 : Memref sig .tc .vmem S72x1024 .f32) (harg18 : arg18.IsWhole) (arg19 : Memref sig .tc .vmem S72x1024 .f32) (harg19 : arg19.IsWhole) (hc0 : ¬cond0_0 i) (hc1 : cond0_1 i) (hc2 : ¬cond0_2 i)
    (x0 : Vec F S32x7168 .bf16) (x1 : Vec F S256x3584 .i8) (x2 : Vec F S224x256 .f16) (x3 : Vec F S224x256 .f16) (x4 : Vec F S256x3584 .i8) (x5 : Vec F S224x256 .f16) (x6 : Vec F S224x256 .f16) (x7 : Vec F S1024x1152 .i8) (x8 : Vec F S72x1024 .f16) (x9 : Vec F S72x1024 .f16) (xs0 : Vec F S28x32x256 .bf16) : Vec F S28x32x256 .bf16 := xs0

/-- Case C stores nothing into scratch `arg12`: it holds what the point before left. -/
def sout0_C_0 (c : Dev nD) (i : grid0.Coords) (arg1 : Memref sig .tc .vmem S32x7168 .bf16) (harg1 : arg1.IsWhole) (arg2 : Memref sig .tc .vmem S256x3584 .i8) (harg2 : arg2.IsWhole) (arg3 : Memref sig .tc .vmem S224x256 .f16) (harg3 : arg3.IsWhole) (arg4 : Memref sig .tc .vmem S224x256 .f16) (harg4 : arg4.IsWhole) (arg5 : Memref sig .tc .vmem S256x3584 .i8) (harg5 : arg5.IsWhole) (arg6 : Memref sig .tc .vmem S224x256 .f16) (harg6 : arg6.IsWhole) (arg7 : Memref sig .tc .vmem S224x256 .f16) (harg7 : arg7.IsWhole) (arg8 : Memref sig .tc .vmem S1024x1152 .i8) (harg8 : arg8.IsWhole) (arg9 : Memref sig .tc .vmem S72x1024 .f16) (harg9 : arg9.IsWhole) (arg10 : Memref sig .tc .vmem S72x1024 .f16) (harg10 : arg10.IsWhole) (arg11 : Memref sig .tc .vmem S32x1024 .bf16) (harg11 : arg11.IsWhole) (arg12 : Memref sig .tc .vmem S28x32x256 .bf16) (harg12 : arg12.IsWhole) (arg13 : Memref sig .tc .vmem S9x32x256 .bf16) (harg13 : arg13.IsWhole) (arg14 : Memref sig .tc .vmem S224x256 .f32) (harg14 : arg14.IsWhole) (arg15 : Memref sig .tc .vmem S224x256 .f32) (harg15 : arg15.IsWhole) (arg16 : Memref sig .tc .vmem S224x256 .f32) (harg16 : arg16.IsWhole) (arg17 : Memref sig .tc .vmem S224x256 .f32) (harg17 : arg17.IsWhole) (arg18 : Memref sig .tc .vmem S72x1024 .f32) (harg18 : arg18.IsWhole) (arg19 : Memref sig .tc .vmem S72x1024 .f32) (harg19 : arg19.IsWhole) (hc0 : ¬cond0_0 i) (hc1 : ¬cond0_1 i) (hc2 : cond0_2 i)
    (x0 : Vec F S32x7168 .bf16) (x1 : Vec F S256x3584 .i8) (x2 : Vec F S224x256 .f16) (x3 : Vec F S224x256 .f16) (x4 : Vec F S256x3584 .i8) (x5 : Vec F S224x256 .f16) (x6 : Vec F S224x256 .f16) (x7 : Vec F S1024x1152 .i8) (x8 : Vec F S72x1024 .f16) (x9 : Vec F S72x1024 .f16) (xs0 : Vec F S28x32x256 .bf16) : Vec F S28x32x256 .bf16 := xs0

/-! ## What the carried scratch holds after each point -/

/-- What the scratch of the permuted activations holds after the body at position `n`: what the case of the body at `n` leaves there, over
    what the position before left. No point meets another combination of the conditions. -/
def outsAt0 (c : Dev nD) : (n : ℕ) → n < cfg0.N → Vec F S28x32x256 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩)
  | n + 1, hn =>
    if h0 : (n + 1) % 16 = 0 then
      if h1 : (n + 1) < 9 then
        if h2 : 9 ≤ (n + 1) then
          False.elim (by have hN : n + 1 < 16 := lt_of_lt_of_eq hn (show cfg0.N = 16 from N_0); omega)
        else
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩)
      else
        False.elim (by have hN : n + 1 < 16 := lt_of_lt_of_eq hn (show cfg0.N = 16 from N_0); omega)
    else
      if h1 : (n + 1) < 9 then
        if h2 : 9 ≤ (n + 1) then
          False.elim (by have hN : n + 1 < 16 := lt_of_lt_of_eq hn (show cfg0.N = 16 from N_0); omega)
        else
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn))
      else
        if h2 : 9 ≤ (n + 1) then
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn))
        else
          False.elim (by have hN : n + 1 < 16 := lt_of_lt_of_eq hn (show cfg0.N = 16 from N_0); omega)

/-- `outsAt0` at a point of case A: that case's contents. -/
theorem outsAt0_A (c : Dev nD) (t : Fin cfg0.N) (h0 : t.val % 16 = 0) (h1 : t.val < 9) (h2 : ¬9 ≤ t.val) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 16 = 0) (h1 : t.val < 9) (h2 : ¬9 ≤ t.val) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 16 = 0) (h1 : ¬t.val < 9) (h2 : 9 ≤ t.val) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The invariant before position `n`: at first every scratch buffer at anything; afterwards the permuted activations' scratch at what the
    point before left in it (`outsAt0`), the others at anything, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  cases n with
  | zero => exact absurd rfl hz
  | succ n => rfl

/-! ## The pipeline's proof data -/

/-- The output's window (10) is the one of whose contents nothing is said. -/
def forgets0 : Fin 11 → Bool := fun w => w.val == 10

/-- The proof data of the pipeline on core `c`: the arrays as the region finds them (`V`); after the body at point `t` each input's buffer
    at its block, and the output's at contents without a name; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ t := PhiS m c t.val (Nat.le_of_lt_succ t.isLt)
  q _ := fullShare
  owed _ := 0

/-- The proof data's arrays are what the region finds. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d))

set_option maxHeartbeats 19200000 in
/-- The body at any point: the inputs' buffers hold their blocks (`before0_0` and so on), the closed forms of the conditions say which case
    the point is in, and that case's run applies to the invariant's scratch buffers and gives the invariant back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : t.val < 9
    · by_cases h2 : 9 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        by_cases hz : t.val = 0
        · rw [PhiS_castSucc m c t, PhiS_zero m c _ _ hz, PhiA0_eq]
          rw [outsAt0_A m c t h0 h1 h2]
          unfold sout0_A_0
          iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_A c (grid0.coords t) _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t)).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iintro ⟨H0, H1, H2, H3, H4, H5, H6, H7, H8, H9, H10, ⟨%es0, HS0⟩, HS1, HS2, HS3, HS4, HS5, HS6, HS7⟩
          isplitl [HS0 HS1 HS2 HS3 HS4 HS5 HS6 HS7 Hg]
          · isplitl [HS0 HS1 HS2 HS3 HS4 HS5 HS6 HS7]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _)
              isplitl [HS1]
              · iexact HS1
              isplitl [HS2]
              · iexact HS2
              isplitl [HS3]
              · iexact HS3
              isplitl [HS4]
              · iexact HS4
              isplitl [HS5]
              · iexact HS5
              isplitl [HS6]
              · iexact HS6
              iexact HS7
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
        · exfalso; have hN : t.val < 16 := lt_of_lt_of_eq t.isLt (show cfg0.N = 16 from N_0); omega
    · exfalso; omega
  · by_cases h1 : t.val < 9
    · by_cases h2 : 9 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        by_cases hz : t.val = 0
        · exfalso; have hN : t.val < 16 := lt_of_lt_of_eq t.isLt (show cfg0.N = 16 from N_0); omega
        · rw [PhiS_castSucc m c t, PhiS_pos m c _ _ hz]
          rw [outsAt0_B m c t h0 h1 h2]
          unfold sout0_B_0
          iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_B c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iintro ⟨H0, H1, H2, H3, H4, H5, H6, H7, H8, H9, H10, HS0, HS1, HS2, HS3, HS4, HS5, HS6, HS7⟩
          isplitl [HS0 HS1 HS2 HS3 HS4 HS5 HS6 HS7 Hg]
          · isplitl [HS0 HS1 HS2 HS3 HS4 HS5 HS6 HS7]
            · isplitl [HS0]
              · iexact HS0
              isplitl [HS1]
              · iexact HS1
              isplitl [HS2]
              · iexact HS2
              isplitl [HS3]
              · iexact HS3
              isplitl [HS4]
              · iexact HS4
              isplitl [HS5]
              · iexact HS5
              isplitl [HS6]
              · iexact HS6
              iexact HS7
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
    · by_cases h2 : 9 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        by_cases hz : t.val = 0
        · exfalso; have hN : t.val < 16 := lt_of_lt_of_eq t.isLt (show cfg0.N = 16 from N_0); omega
        · rw [PhiS_castSucc m c t, PhiS_pos m c _ _ hz]
          rw [outsAt0_C m c t h0 h1 h2]
          unfold sout0_C_0
          iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_C c (grid0.coords t) _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iintro ⟨H0, H1, H2, H3, H4, H5, H6, H7, H8, H9, H10, HS0, HS1, HS2, HS3, HS4, HS5, HS6, HS7⟩
          isplitl [HS0 HS1 HS2 HS3 HS4 HS5 HS6 HS7 Hg]
          · isplitl [HS0 HS1 HS2 HS3 HS4 HS5 HS6 HS7]
            · isplitl [HS0]
              · iexact HS0
              isplitl [HS1]
              · iexact HS1
              isplitl [HS2]
              · iexact HS2
              isplitl [HS3]
              · iexact HS3
              isplitl [HS4]
              · iexact HS4
              isplitl [HS5]
              · iexact HS5
              isplitl [HS6]
              · iexact HS6
              iexact HS7
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7⟩, Hg⟩
  isplitl [HS0 HS1 HS2 HS3 HS4 HS5 HS6 HS7]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    isplitl [HS6]
    · iexact HS6
    iexact HS7
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- The launch: `run_main`'s statement, and every semaphore counter at zero in the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters: every execution ends with each input array of the pipeline unchanged and every other unscoped
    buffer as the region found it; of the output array nothing is said. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of_rel m ρ (fun c => (dats m 0 c).toRForget forgets0) (A_eq m) (run_main m ρ)

/-- The kernel at any values: it terminates without fault and leaves its arguments as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Gen

end
-- ==== Proof.lean ====
/- The certificate: each program runs to the end and leaves its arguments as they were, and at the real numbers the kernel's
   output array is the reference's. -/
module

public import proofs.«01_k».proof.Defs
public import proofs.«01_k».proof.Proof.Value.Final
public import proofs.«01_k».proof.Proof.Value.RefFinal
public import proofs.«01_k».proof.Proof.KernelFrame.Frame
public import proofs.«01_k».proof.Proof.Gen.ReferenceIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- The kernel's arguments and the reference's being the same, so are the two output arrays. -/
theorem out_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.RefValue.outArr m' c = Cert.KernelIdeal.Gen.outArr m c := by
  have e0 : Cert.RefValue.argX m' c = Cert.KernelIdeal.Gen.argX m c := by
    unfold Cert.RefValue.argX Cert.KernelIdeal.Gen.argX
    rw [h0]
  have e1 : Cert.RefValue.argGq m' c = Cert.KernelIdeal.Gen.argGq m c := h1
  have e2 : Cert.RefValue.argGs m' c = Cert.KernelIdeal.Gen.argGs m c := h2
  have e3 : Cert.RefValue.argGm m' c = Cert.KernelIdeal.Gen.argGm m c := h3
  have e4 : Cert.RefValue.argUq m' c = Cert.KernelIdeal.Gen.argUq m c := h4
  have e5 : Cert.RefValue.argUs m' c = Cert.KernelIdeal.Gen.argUs m c := h5
  have e6 : Cert.RefValue.argUm m' c = Cert.KernelIdeal.Gen.argUm m c := h6
  have e7 : Cert.RefValue.argDq m' c = Cert.KernelIdeal.Gen.argDq m c := h7
  have e8 : Cert.RefValue.argDs m' c = Cert.KernelIdeal.Gen.argDs m c := h8
  have e9 : Cert.RefValue.argDm m' c = Cert.KernelIdeal.Gen.argDm m c := h9
  unfold Cert.RefValue.outArr Cert.KernelIdeal.Gen.outArr Cert.KernelIdeal.Gen.mlpOf
  rw [e0, e1, e2, e3, e4, e5, e6, e7, e8, e9]

theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Gen.outArr m c, ?_, ?_⟩
  · exact (θ_run _ _ _).mono (fun r h c => ⟨(h c).1.trans (Cert.KernelIdeal.Gen.final_out m c), (h c).2⟩) (Cert.KernelIdeal.Gen.run_blocks m g)
  · refine (θ_run _ _ _).mono (fun r h c => ⟨(h c).1.trans ((Cert.RefValue.final_out m' c).trans ?_), (h c).2⟩) (Cert.ReferenceIdeal.Value.run_blocks m' g')
    obtain ⟨h0, h1, h2, h3, h4, h5, h6, h7, h8, h9⟩ := hargs c
    exact out_agree m m' c h0 h1 h2 h3 h4 h5 h6 h7 h8 h9

/-- The certificate's claim: the three frames, the preserved statement, and the equality of the outputs. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, fun m ρ _ => Cert.ReferenceIdeal.Gen.frame m ρ,
    trivial, algebraic⟩

end Cert.Proof

end
